-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2304x5120 : Shape := ⟨3, ![3, 2304, 5120]⟩
abbrev S3x144x5120 : Shape := ⟨3, ![3, 144, 5120]⟩
abbrev S3x640x4x18432 : Shape := ⟨4, ![3, 640, 4, 18432]⟩
abbrev S1x2304x128 : Shape := ⟨3, ![1, 2304, 128]⟩
abbrev S1x144x128 : Shape := ⟨3, ![1, 144, 128]⟩
abbrev S1x16x4x18432 : Shape := ⟨4, ![1, 16, 4, 18432]⟩
abbrev S144x128 : Shape := ⟨2, ![144, 128]⟩
abbrev S1x8x128 : Shape := ⟨3, ![1, 8, 128]⟩
abbrev S8x128 : Shape := ⟨2, ![8, 128]⟩
abbrev S128x128 : Shape := ⟨2, ![128, 128]⟩
abbrev S32x128 : Shape := ⟨2, ![32, 128]⟩
abbrev S8x4x128 : Shape := ⟨3, ![8, 4, 128]⟩
abbrev S1x8x4x128 : Shape := ⟨4, ![1, 8, 4, 128]⟩
abbrev S3x640x18432x4 : Shape := ⟨4, ![3, 640, 18432, 4]⟩
abbrev S3x5120x144 : Shape := ⟨3, ![3, 5120, 144]⟩

abbrev nBuf : Space → Nat
  | .hbm => 6
  | .vmem => 10
  | .smem => 0
  | _ => 0

abbrev bufTy : (tb : Table) → Fin (tcTables nBuf tb) → BufTy
  | .hbm, ⟨0, _⟩ => ⟨S3x2304x5120, .i32⟩
  | .hbm, ⟨1, _⟩ => ⟨S3x144x5120, .f32⟩
  | .hbm, ⟨2, _⟩ => ⟨S3x640x4x18432, .i8⟩
  | .hbm, ⟨3, _⟩ => ⟨S3x144x5120, .f32⟩
  | .hbm, ⟨4, _⟩ => ⟨S3x640x18432x4, .i8⟩
  | .hbm, ⟨5, _⟩ => ⟨S3x5120x144, .f32⟩
  | .local _ .vmem, ⟨0, _⟩ => ⟨S1x2304x128, .i32⟩
  | .local _ .vmem, ⟨1, _⟩ => ⟨S1x2304x128, .i32⟩
  | .local _ .vmem, ⟨2, _⟩ => ⟨S1x144x128, .f32⟩
  | .local _ .vmem, ⟨3, _⟩ => ⟨S1x144x128, .f32⟩
  | .local _ .vmem, ⟨4, _⟩ => ⟨S1x16x4x18432, .i8⟩
  | .local _ .vmem, ⟨5, _⟩ => ⟨S1x16x4x18432, .i8⟩
  | .local _ .vmem, ⟨6, _⟩ => ⟨S1x144x128, .f32⟩
  | .local _ .vmem, ⟨7, _⟩ => ⟨S1x144x128, .f32⟩
  | .local _ .vmem, ⟨8, _⟩ => ⟨S144x128, .i32⟩
  | .local _ .vmem, ⟨9, _⟩ => ⟨S144x128, .i32⟩
  | _, _ => ⟨S3x2304x5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 40], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4x18432 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S3x2304x5120 : Shape := ⟨3, ![3, 2304, 5120]⟩
abbrev S3x144x5120 : Shape := ⟨3, ![3, 144, 5120]⟩
abbrev S3x2304x640x8 : Shape := ⟨4, ![3, 2304, 640, 8]⟩
abbrev S8 : Shape := ⟨1, ![8]⟩
abbrev S_ : Shape := ⟨0, ![]⟩
abbrev S3x2304x640x8x1 : Shape := ⟨5, ![3, 2304, 640, 8, 1]⟩
abbrev S1x1x1x1x8 : Shape := ⟨5, ![1, 1, 1, 1, 8]⟩
abbrev S3x2304x640x8x8 : Shape := ⟨5, ![3, 2304, 640, 8, 8]⟩
abbrev S8x1 : Shape := ⟨2, ![8, 1]⟩
abbrev S1x1x1x8x1 : Shape := ⟨5, ![1, 1, 1, 8, 1]⟩
abbrev S3x640x2304x8 : Shape := ⟨4, ![3, 640, 2304, 8]⟩
abbrev S3x640x18432 : Shape := ⟨3, ![3, 640, 18432]⟩
abbrev S4 : Shape := ⟨1, ![4]⟩
abbrev S3x640x18432x1 : Shape := ⟨4, ![3, 640, 18432, 1]⟩
abbrev S1x1x1x4 : Shape := ⟨4, ![1, 1, 1, 4]⟩
abbrev S3x640x18432x4 : Shape := ⟨4, ![3, 640, 18432, 4]⟩
abbrev S3x5120x144 : Shape := ⟨3, ![3, 5120, 144]⟩

abbrev nBuf : Space → Nat
  | .hbm => 38
  | .vmem => 0
  | .smem => 0
  | _ => 0

abbrev bufTy : (tb : Table) → Fin (tcTables nBuf tb) → BufTy
  | .hbm, ⟨0, _⟩ => ⟨S3x2304x5120, .i32⟩
  | .hbm, ⟨1, _⟩ => ⟨S3x144x5120, .f32⟩
  | .hbm, ⟨2, _⟩ => ⟨S3x2304x5120, .i32⟩
  | .hbm, ⟨3, _⟩ => ⟨S3x2304x640x8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S3x2304x640x8x1, .i32⟩
  | .hbm, ⟨9, _⟩ => ⟨S1x1x1x1x8, .i32⟩
  | .hbm, ⟨10, _⟩ => ⟨S3x2304x640x8x8, .i32⟩
  | .hbm, ⟨11, _⟩ => ⟨S3x2304x640x8x8, .i32⟩
  | .hbm, ⟨12, _⟩ => ⟨S3x2304x640x8x8, .i32⟩
  | .hbm, ⟨13, _⟩ => ⟨S_, .i32⟩
  | .hbm, ⟨14, _⟩ => ⟨S3x2304x640x8x8, .i32⟩
  | .hbm, ⟨15, _⟩ => ⟨S3x2304x640x8x8, .i32⟩
  | .hbm, ⟨16, _⟩ => ⟨S8x1, .i32⟩
  | .hbm, ⟨17, _⟩ => ⟨S1x1x1x8x1, .i32⟩
  | .hbm, ⟨18, _⟩ => ⟨S3x2304x640x8x8, .i32⟩
  | .hbm, ⟨19, _⟩ => ⟨S3x2304x640x8x8, .i32⟩
  | .hbm, ⟨20, _⟩ => ⟨S_, .i32⟩
  | .hbm, ⟨21, _⟩ => ⟨S3x2304x640x8, .i32⟩
  | .hbm, ⟨22, _⟩ => ⟨S3x640x2304x8, .i32⟩
  | .hbm, ⟨23, _⟩ => ⟨S3x640x18432, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S3x640x18432x1, .i32⟩
  | .hbm, ⟨29, _⟩ => ⟨S1x1x1x4, .i32⟩
  | .hbm, ⟨30, _⟩ => ⟨S3x640x18432x4, .i32⟩
  | .hbm, ⟨31, _⟩ => ⟨S3x640x18432x4, .i32⟩
  | .hbm, ⟨32, _⟩ => ⟨S3x640x18432x4, .i32⟩
  | .hbm, ⟨33, _⟩ => ⟨S_, .i32⟩
  | .hbm, ⟨34, _⟩ => ⟨S3x640x18432x4, .i32⟩
  | .hbm, ⟨35, _⟩ => ⟨S3x640x18432x4, .i32⟩
  | .hbm, ⟨36, _⟩ => ⟨S3x640x18432x4, .i8⟩
  | .hbm, ⟨37, _⟩ => ⟨S3x5120x144, .f32⟩
  | _, _ => ⟨S3x2304x5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Proof.OnBits.Nib.lean ====
/-
  The kernel's nibble transpose as one function of eight slabs of words: what its three levels of
  packing (16, 8 and 4 bits) compute, with no program around it.
-/
module

public import proofs.«01_k».proof.Proof.Gen.Kernel

@[expose] public section

noncomputable section

namespace Cert.Kernel.Own

open Idealize.ShloMosaic

/-- A slab: eight rows of 128 words. -/
abbrev Slab := IVec S8x128 32

/-- Every word of a slab shifted right by `k` bits. -/
def shr (k : BitVec 32) (u : Slab) : Slab := shrui u (broadcast S8x128 k)

/-- Two slabs interleaved: the bits that `mask` selects from `u`, and those it selects from `v`
    moved up by `k`. -/
def pkm (mask k : BitVec 32) (u v : Slab) : Slab :=
  ori (andi u (broadcast S8x128 mask)) (shli (andi v (broadcast S8x128 mask)) (broadcast S8x128 k))

/-- The 16-bit level: the low (`hi = false`) or high halves of two slabs, packed. -/
def lvl16 (hi : Bool) (u v : Slab) : Slab :=
  match hi with
  | false => packElementwiseI16 u v
  | true => packElementwiseI16 (shr 16#32 u) (shr 16#32 v)

/-- The 8-bit level: the low or high bytes of every half word of two slabs, packed. -/
def lvl8 (hi : Bool) (u v : Slab) : Slab :=
  match hi with
  | false => pkm 16711935#32 8#32 u v
  | true => pkm 16711935#32 8#32 (shr 8#32 u) (shr 8#32 v)

/-- The 4-bit level: the low or high nibbles of every byte of two slabs, packed. -/
def lvl4 (hi : Bool) (u v : Slab) : Slab :=
  match hi with
  | false => pkm 252645135#32 4#32 u v
  | true => pkm 252645135#32 4#32 (shr 4#32 u) (shr 4#32 v)

/-- Output slab `4 * a + 2 * b + c` of the nibble transpose. -/
def nib (a b c : Bool) (x0 x1 x2 x3 x4 x5 x6 x7 : Slab) : Slab :=
  lvl4 c (lvl8 b (lvl16 a x0 x4) (lvl16 a x2 x6)) (lvl8 b (lvl16 a x1 x5) (lvl16 a x3 x7))

end Cert.Kernel.Own
-- ==== Proof.OnBits.Units.lean ====
/-
  The kernel's body written as one function used 18 times. `unitL` is what the body does for 128 rows
  of the input block; its offsets are its arguments. `body_eq` says that the printed body is the copy of
  the scales followed by the 18 uses.
-/
module

public import proofs.«01_k».proof.Proof.OnBits.Nib
public import proofs.«01_k».proof.Proof.Gen.Kernel.Launch
public import Idealize.ShloMosaic.PureOps.BitExact
public import Idealize.ShloMosaic.Lib.Tactic.ProgEq

@[expose] public section

set_option maxRecDepth 16384

noncomputable section

namespace Cert.Kernel.Own

open Idealize.ShloMosaic Idealize.ShloMosaic.TcCoe Idealize.SL.Sem
open Facts₀ Facts

variable {F : FTy → Type} [FloatOps F]

/-- The input block, eight rows from row `o`. -/
theorem inbW {o : ℕ} (h : o ≤ 2296) : ∀ a, (![0, o, 0] : Fin 3 → ℕ) a + S1x8x128.size a ≤ S1x2304x128.size a := by
  intro a; fin_cases a
  · exact Nat.le_refl 1
  · show o + 8 ≤ 2304; omega
  · exact Nat.le_refl 128

/-- A scratch array, eight rows from row `o`. -/
theorem inbS {o : ℕ} (h : o ≤ 136) : ∀ a, (![o, 0] : Fin 2 → ℕ) a + S8x128.size a ≤ S144x128.size a := by
  intro a; fin_cases a
  · show o + 8 ≤ 144; omega
  · exact Nat.le_refl 128

/-- A scratch array, every ninth row from row `o`, eight of them. -/
theorem inbT {o : ℕ} (h : o ≤ 80) : ∀ a, S8x128.size a = 0 ∨ (![o, 0] : Fin 2 → ℕ) a + ((![9, 1] : Fin 2 → ℕ) a) * (S8x128.size a - 1) < S144x128.size a := by
  intro a; fin_cases a
  · exact .inr (show o + 9 * 7 < 144 by omega)
  · exact .inr (show 0 + 1 * 127 < 128 by omega)

/-- The output block, rows `r` to `r + 7`, all four bytes, 128 columns from column `o`. -/
theorem inbO {r o : ℕ} (hr : r ≤ 8) (h : o ≤ 18304) :
    ∀ a, (![0, r, 0, o] : Fin 4 → ℕ) a + S1x8x4x128.size a ≤ S1x16x4x18432.size a := by
  intro a; fin_cases a
  · exact Nat.le_refl 1
  · show r + 8 ≤ 16; omega
  · exact Nat.le_refl 4
  · show o + 128 ≤ 18432; omega

/-- A store there writes whole words. -/
theorem packedO {r o : ℕ} (hr : r ≤ 8) (h : o ≤ 18304) :
    (Rect.unit (s := S1x16x4x18432) ![0, r, 0, o] S1x8x4x128.size (inbO hr h)).PackedRows (EltTy.packing .i8) :=
  .inr ⟨by decide, rfl, .inl ⟨⟨0, rfl⟩, ⟨1, rfl⟩⟩⟩

/-- Load eight rows of the input block from row `o`. -/
def ldW [Facts] (arg2 : Memref sig .tc .vmem S1x2304x128 .i32) (o : ℕ) (h : o ≤ 2296) : Prog (TpuEff nD τ sig (Elt F) Λ₀ .tc) Slab := do
  let v : Vec F S1x8x128 .i32 ← Prog.lift (.load arg2 (Rect.unit (s := S1x2304x128) ![0, o, 0] S1x8x128.size (inbW h)).toLoadRect (View.loadsAt_vmem h_S1x8x128))
  pure (shapeCast S8x128 v shapeCasts_S1x8x128_S8x128)

/-- Load eight rows of a scratch array from row `o`. -/
def ldS [Facts] (arg : Memref sig .tc .vmem S144x128 .i32) (o : ℕ) (h : o ≤ 136) : Prog (TpuEff nD τ sig (Elt F) Λ₀ .tc) Slab := do
  let v : Vec F S8x128 .i32 ← Prog.lift (.load arg (Rect.unit (s := S144x128) ![o, 0] S8x128.size (inbS h)).toLoadRect (View.loadsAt_vmem h_S8x128))
  pure v

/-- Load every ninth row of a scratch array from row `o`, eight of them. -/
def ldT [Facts] (arg : Memref sig .tc .vmem S144x128 .i32) (o : ℕ) (h : o ≤ 80) : Prog (TpuEff nD τ sig (Elt F) Λ₀ .tc) Slab := do
  let v : Vec F S8x128 .i32 ← Prog.lift (.load arg (⟨![o, 0], S8x128.size, ![9, 1], inbT h⟩ : LoadRect S144x128) (View.loadsAt_vmem h_S8x128))
  pure v

/-- Store a slab to eight rows of a scratch array from row `o` (after a load whose value is not used). -/
def stS [Facts] (arg : Memref sig .tc .vmem S144x128 .i32) (o : ℕ) (h : o ≤ 136) (w : Slab) : Prog (TpuEff nD τ sig (Elt F) Λ₀ .tc) PUnit := do
  let _v : Vec F S8x128 .i32 ← Prog.lift (.load arg (Rect.unit (s := S144x128) ![o, 0] S8x128.size (inbS h)).toLoadRect (View.loadsAt_vmem h_S8x128))
  Prog.lift (.store arg (Rect.unit (s := S144x128) ![o, 0] S8x128.size (inbS h)) (shapeCast S8x128 w shapeCasts_S8x128_S8x128 : IVec S8x128 32) Finset.univ (View.stores_vmem_bits_univ h_S8x128 rfl) (.inl rfl))

/-- Store a slab to every ninth row of a scratch array from row `o` (after a load whose value is not used). -/
def stT [Facts] (arg : Memref sig .tc .vmem S144x128 .i32) (o : ℕ) (h : o ≤ 80) (w : Slab) : Prog (TpuEff nD τ sig (Elt F) Λ₀ .tc) PUnit := do
  let _v : Vec F S8x128 .i32 ← Prog.lift (.load arg (⟨![o, 0], S8x128.size, ![9, 1], inbT h⟩ : LoadRect S144x128) (View.loadsAt_vmem h_S8x128))
  Prog.lift (.store arg ⟨(⟨![o, 0], S8x128.size, ![9, 1], inbT h⟩ : LoadRect S144x128), spos_9_1⟩ (shapeCast S8x128 w shapeCasts_S8x128_S8x128 : IVec S8x128 32) Finset.univ (View.stores_vmem_bits_univ h_S8x128 rfl) (.inl rfl))

/-- The bytes of a slab as the output block holds them. -/
def bytesOf [Facts] (w : Slab) : IVec S1x8x4x128 8 :=
  shapeCast S1x8x4x128 (shapeCast S8x4x128 (bitcast S32x128 8 w bitcasts_S8x128_w32_S32x128_w8 : IVec S32x128 8) shapeCasts_S32x128_S8x4x128 : IVec S8x4x128 8) shapeCasts_S8x4x128_S1x8x4x128

/-- Store a slab's bytes to the output block at row `r` and column `o` (after a load whose value is not used). -/
def stO [Facts] (arg4 : Memref sig .tc .vmem S1x16x4x18432 .i8) (harg4 : arg4.IsWhole) (r o : ℕ) (hr : r ≤ 8) (h : o ≤ 18304)
    (w : Slab) : Prog (TpuEff nD τ sig (Elt F) Λ₀ .tc) PUnit := do
  let _v : Vec F S1x8x4x128 .i8 ← Prog.lift (.load arg4 (Rect.unit (s := S1x16x4x18432) ![0, r, 0, o] S1x8x4x128.size (inbO hr h)).toLoadRect (View.loadsAt_vmem h_S1x8x4x128))
  Prog.lift (.store arg4 (Rect.unit (s := S1x16x4x18432) ![0, r, 0, o] S1x8x4x128.size (inbO hr h)) (bytesOf w) Finset.univ (View.stores_vmem h_S1x8x4x128 (harg4.storeExact_slice rfl _ (packedO hr h)) (fun _ => rfl)) (.inl rfl))

/-- First half step: eight slabs of the input block, their nibble transpose to the first scratch array. -/
def halfA [Facts] (arg2 : Memref sig .tc .vmem S1x2304x128 .i32) (arg6 : Memref sig .tc .vmem S144x128 .i32) (b r : ℕ) (hb : b ≤ 2184) (hr : r ≤ 73)
    (o0 o1 o2 o3 o4 o5 o6 o7 r0 r1 r2 r3 r4 r5 r6 r7 : ℕ) (H : o0 = b ∧ o1 = b + 16 ∧ o2 = b + 32 ∧ o3 = b + 48 ∧ o4 = b + 64 ∧ o5 = b + 80 ∧ o6 = b + 96 ∧ o7 = b + 112)
    (R : r0 = r ∧ r1 = r + 1 ∧ r2 = r + 2 ∧ r3 = r + 3 ∧ r4 = r + 4 ∧ r5 = r + 5 ∧ r6 = r + 6 ∧ r7 = r + 7) : Prog (TpuEff nD τ sig (Elt F) Λ₀ .tc) PUnit := do
  let x0 : Slab ← ldW arg2 o0 (by rw [H.1]; omega)
  let x1 : Slab ← ldW arg2 o1 (by rw [H.2.1]; omega)
  let x2 : Slab ← ldW arg2 o2 (by rw [H.2.2.1]; omega)
  let x3 : Slab ← ldW arg2 o3 (by rw [H.2.2.2.1]; omega)
  let x4 : Slab ← ldW arg2 o4 (by rw [H.2.2.2.2.1]; omega)
  let x5 : Slab ← ldW arg2 o5 (by rw [H.2.2.2.2.2.1]; omega)
  let x6 : Slab ← ldW arg2 o6 (by rw [H.2.2.2.2.2.2.1]; omega)
  let x7 : Slab ← ldW arg2 o7 (by rw [H.2.2.2.2.2.2.2]; omega)
  stT arg6 r0 (by rw [R.1]; omega) (nib false false false x0 x1 x2 x3 x4 x5 x6 x7)
  stT arg6 r1 (by rw [R.2.1]; omega) (nib false false true x0 x1 x2 x3 x4 x5 x6 x7)
  stT arg6 r2 (by rw [R.2.2.1]; omega) (nib false true false x0 x1 x2 x3 x4 x5 x6 x7)
  stT arg6 r3 (by rw [R.2.2.2.1]; omega) (nib false true true x0 x1 x2 x3 x4 x5 x6 x7)
  stT arg6 r4 (by rw [R.2.2.2.2.1]; omega) (nib true false false x0 x1 x2 x3 x4 x5 x6 x7)
  stT arg6 r5 (by rw [R.2.2.2.2.2.1]; omega) (nib true false true x0 x1 x2 x3 x4 x5 x6 x7)
  stT arg6 r6 (by rw [R.2.2.2.2.2.2.1]; omega) (nib true true false x0 x1 x2 x3 x4 x5 x6 x7)
  stT arg6 r7 (by rw [R.2.2.2.2.2.2.2]; omega) (nib true true true x0 x1 x2 x3 x4 x5 x6 x7)

/-- The sixteen groups of rows of the first scratch array, stacked. -/
def stack [Facts] (t0 t1 t2 t3 t4 t5 t6 t7 t8 t9 t10 t11 t12 t13 t14 t15 : Slab) : IVec S128x128 32 :=
  concatenate S128x128 0 [⟨S8x128, t0⟩, ⟨S8x128, t1⟩, ⟨S8x128, t2⟩, ⟨S8x128, t3⟩, ⟨S8x128, t4⟩, ⟨S8x128, t5⟩, ⟨S8x128, t6⟩, ⟨S8x128, t7⟩, ⟨S8x128, t8⟩, ⟨S8x128, t9⟩, ⟨S8x128, t10⟩, ⟨S8x128, t11⟩, ⟨S8x128, t12⟩, ⟨S8x128, t13⟩, ⟨S8x128, t14⟩, ⟨S8x128, t15⟩] concatenates_S8x128_S8x128_S8x128_S8x128_S8x128_S8x128_S8x128_S8x128_S8x128_S8x128_S8x128_S8x128_S8x128_S8x128_S8x128_S8x128_S128x128_d0

/-- Middle step: the first scratch array, transposed, to the second. -/
def mid [Facts] (arg6 arg7 : Memref sig .tc .vmem S144x128 .i32) : Prog (TpuEff nD τ sig (Elt F) Λ₀ .tc) PUnit := do
  let t0 : Slab ← ldS arg6 0 (by decide)
  let t1 : Slab ← ldS arg6 9 (by decide)
  let t2 : Slab ← ldS arg6 18 (by decide)
  let t3 : Slab ← ldS arg6 27 (by decide)
  let t4 : Slab ← ldS arg6 36 (by decide)
  let t5 : Slab ← ldS arg6 45 (by decide)
  let t6 : Slab ← ldS arg6 54 (by decide)
  let t7 : Slab ← ldS arg6 63 (by decide)
  let t8 : Slab ← ldS arg6 72 (by decide)
  let t9 : Slab ← ldS arg6 81 (by decide)
  let t10 : Slab ← ldS arg6 90 (by decide)
  let t11 : Slab ← ldS arg6 99 (by decide)
  let t12 : Slab ← ldS arg6 108 (by decide)
  let t13 : Slab ← ldS arg6 117 (by decide)
  let t14 : Slab ← ldS arg6 126 (by decide)
  let t15 : Slab ← ldS arg6 135 (by decide)
  let t : IVec S128x128 32 := transpose S128x128 [1, 0] (stack t0 t1 t2 t3 t4 t5 t6 t7 t8 t9 t10 t11 t12 t13 t14 t15) transposes_S128x128_p1_0_S128x128
  stS arg7 0 (by decide) (extractStridedSlice S8x128 ![0, 0] t slices_S128x128_o0_0_S8x128)
  stS arg7 9 (by decide) (extractStridedSlice S8x128 ![8, 0] t slices_S128x128_o8_0_S8x128)
  stS arg7 18 (by decide) (extractStridedSlice S8x128 ![16, 0] t slices_S128x128_o16_0_S8x128)
  stS arg7 27 (by decide) (extractStridedSlice S8x128 ![24, 0] t slices_S128x128_o24_0_S8x128)
  stS arg7 36 (by decide) (extractStridedSlice S8x128 ![32, 0] t slices_S128x128_o32_0_S8x128)
  stS arg7 45 (by decide) (extractStridedSlice S8x128 ![40, 0] t slices_S128x128_o40_0_S8x128)
  stS arg7 54 (by decide) (extractStridedSlice S8x128 ![48, 0] t slices_S128x128_o48_0_S8x128)
  stS arg7 63 (by decide) (extractStridedSlice S8x128 ![56, 0] t slices_S128x128_o56_0_S8x128)
  stS arg7 72 (by decide) (extractStridedSlice S8x128 ![64, 0] t slices_S128x128_o64_0_S8x128)
  stS arg7 81 (by decide) (extractStridedSlice S8x128 ![72, 0] t slices_S128x128_o72_0_S8x128)
  stS arg7 90 (by decide) (extractStridedSlice S8x128 ![80, 0] t slices_S128x128_o80_0_S8x128)
  stS arg7 99 (by decide) (extractStridedSlice S8x128 ![88, 0] t slices_S128x128_o88_0_S8x128)
  stS arg7 108 (by decide) (extractStridedSlice S8x128 ![96, 0] t slices_S128x128_o96_0_S8x128)
  stS arg7 117 (by decide) (extractStridedSlice S8x128 ![104, 0] t slices_S128x128_o104_0_S8x128)
  stS arg7 126 (by decide) (extractStridedSlice S8x128 ![112, 0] t slices_S128x128_o112_0_S8x128)
  stS arg7 135 (by decide) (extractStridedSlice S8x128 ![120, 0] t slices_S128x128_o120_0_S8x128)

/-- Last half step: eight slabs of the second scratch array, their nibble transpose to the output block. -/
def halfO [Facts] (arg7 : Memref sig .tc .vmem S144x128 .i32) (arg4 : Memref sig .tc .vmem S1x16x4x18432 .i8) (harg4 : arg4.IsWhole) (j q r : ℕ) (hj : j ≤ 8) (hq : q ≤ 17408) (hr : r ≤ 73)
    (r0 r1 r2 r3 r4 r5 r6 r7 o0 o1 o2 o3 o4 o5 o6 o7 : ℕ) (R : r0 = r ∧ r1 = r + 1 ∧ r2 = r + 2 ∧ r3 = r + 3 ∧ r4 = r + 4 ∧ r5 = r + 5 ∧ r6 = r + 6 ∧ r7 = r + 7)
    (H : o0 = q ∧ o1 = q + 128 ∧ o2 = q + 256 ∧ o3 = q + 384 ∧ o4 = q + 512 ∧ o5 = q + 640 ∧ o6 = q + 768 ∧ o7 = q + 896) : Prog (TpuEff nD τ sig (Elt F) Λ₀ .tc) PUnit := do
  let z0 : Slab ← ldT arg7 r0 (by rw [R.1]; omega)
  let z1 : Slab ← ldT arg7 r1 (by rw [R.2.1]; omega)
  let z2 : Slab ← ldT arg7 r2 (by rw [R.2.2.1]; omega)
  let z3 : Slab ← ldT arg7 r3 (by rw [R.2.2.2.1]; omega)
  let z4 : Slab ← ldT arg7 r4 (by rw [R.2.2.2.2.1]; omega)
  let z5 : Slab ← ldT arg7 r5 (by rw [R.2.2.2.2.2.1]; omega)
  let z6 : Slab ← ldT arg7 r6 (by rw [R.2.2.2.2.2.2.1]; omega)
  let z7 : Slab ← ldT arg7 r7 (by rw [R.2.2.2.2.2.2.2]; omega)
  stO arg4 harg4 j o0 hj (by rw [H.1]; omega) (nib false false false z0 z1 z2 z3 z4 z5 z6 z7)
  stO arg4 harg4 j o1 hj (by rw [H.2.1]; omega) (nib false false true z0 z1 z2 z3 z4 z5 z6 z7)
  stO arg4 harg4 j o2 hj (by rw [H.2.2.1]; omega) (nib false true false z0 z1 z2 z3 z4 z5 z6 z7)
  stO arg4 harg4 j o3 hj (by rw [H.2.2.2.1]; omega) (nib false true true z0 z1 z2 z3 z4 z5 z6 z7)
  stO arg4 harg4 j o4 hj (by rw [H.2.2.2.2.1]; omega) (nib true false false z0 z1 z2 z3 z4 z5 z6 z7)
  stO arg4 harg4 j o5 hj (by rw [H.2.2.2.2.2.1]; omega) (nib true false true z0 z1 z2 z3 z4 z5 z6 z7)
  stO arg4 harg4 j o6 hj (by rw [H.2.2.2.2.2.2.1]; omega) (nib true true false z0 z1 z2 z3 z4 z5 z6 z7)
  stO arg4 harg4 j o7 hj (by rw [H.2.2.2.2.2.2.2]; omega) (nib true true true z0 z1 z2 z3 z4 z5 z6 z7)

/-- What the body does for the 128 rows of the input block from row `b` (`p` is `b + 8`), and so for the 1024 columns of the output block
    from column `q`. -/
def unitL [Facts] (arg2 : Memref sig .tc .vmem S1x2304x128 .i32) (arg4 : Memref sig .tc .vmem S1x16x4x18432 .i8) (harg4 : arg4.IsWhole) (arg6 arg7 : Memref sig .tc .vmem S144x128 .i32)
    (b p q : ℕ) (hb : b ≤ 2176) (hp : p ≤ 2184) (hq : q ≤ 17408) (o0 o1 o2 o3 o4 o5 o6 o7 p0 p1 p2 p3 p4 p5 p6 p7 q0 q1 q2 q3 q4 q5 q6 q7 : ℕ)
    (H : o0 = b ∧ o1 = b + 16 ∧ o2 = b + 32 ∧ o3 = b + 48 ∧ o4 = b + 64 ∧ o5 = b + 80 ∧ o6 = b + 96 ∧ o7 = b + 112)
    (P : p0 = p ∧ p1 = p + 16 ∧ p2 = p + 32 ∧ p3 = p + 48 ∧ p4 = p + 64 ∧ p5 = p + 80 ∧ p6 = p + 96 ∧ p7 = p + 112)
    (Q : q0 = q ∧ q1 = q + 128 ∧ q2 = q + 256 ∧ q3 = q + 384 ∧ q4 = q + 512 ∧ q5 = q + 640 ∧ q6 = q + 768 ∧ q7 = q + 896) : Prog (TpuEff nD τ sig (Elt F) Λ₀ .tc) PUnit := do
  halfA arg2 arg6 b 0 (by omega) (by decide) o0 o1 o2 o3 o4 o5 o6 o7 0 1 2 3 4 5 6 7 H (by decide)
  halfA arg2 arg6 p 72 (by omega) (by decide) p0 p1 p2 p3 p4 p5 p6 p7 72 73 74 75 76 77 78 79 P (by decide)
  mid arg6 arg7
  halfO arg7 arg4 harg4 0 q 0 (by decide) hq (by decide) 0 1 2 3 4 5 6 7 q0 q1 q2 q3 q4 q5 q6 q7 (by decide) Q
  halfO arg7 arg4 harg4 8 q 72 (by decide) hq (by decide) 72 73 74 75 76 77 78 79 q0 q1 q2 q3 q4 q5 q6 q7 (by decide) Q

/-- The whole body: the scales, then the 18 units. -/
def body [Facts] (i : grid0.Coords) (arg2 : Memref sig .tc .vmem S1x2304x128 .i32) (harg2 : arg2.IsWhole) (arg3 : Memref sig .tc .vmem S1x144x128 .f32) (harg3 : arg3.IsWhole) (arg4 : Memref sig .tc .vmem S1x16x4x18432 .i8) (harg4 : arg4.IsWhole) (arg5 : Memref sig .tc .vmem S1x144x128 .f32) (harg5 : arg5.IsWhole) (arg6 : Memref sig .tc .vmem S144x128 .i32) (harg6 : arg6.IsWhole) (arg7 : Memref sig .tc .vmem S144x128 .i32) (harg7 : arg7.IsWhole) : Prog (TpuEff nD τ sig (Elt F) Λ₀ .tc) PUnit := do
  let v0 : Vec F S1x144x128 .f32 ← Prog.lift (.load arg3 (Rect.unit (s := S1x144x128) ![0, 0, 0] S1x144x128.size inb_S1x144x128_S1x144x128_0_0_0).toLoadRect (View.loadsAt_vmem h_S1x144x128))
  let _v1 : Vec F S1x144x128 .f32 ← Prog.lift (.load arg5 (Rect.unit (s := S1x144x128) ![0, 0, 0] S1x144x128.size inb_S1x144x128_S1x144x128_0_0_0).toLoadRect (View.loadsAt_vmem h_S1x144x128))
  Prog.lift (.store arg5 (Rect.unit (s := S1x144x128) ![0, 0, 0] S1x144x128.size inb_S1x144x128_S1x144x128_0_0_0) v0 Finset.univ (View.stores_vmem_bits_univ h_S1x144x128 rfl) (.inl rfl))
  unitL arg2 arg4 harg4 arg6 arg7 0 8 0 (by decide) (by decide) (by decide) 0 16 32 48 64 80 96 112 8 24 40 56 72 88 104 120 0 128 256 384 512 640 768 896 (by decide) (by decide) (by decide)
  unitL arg2 arg4 harg4 arg6 arg7 128 136 1024 (by decide) (by decide) (by decide) 128 144 160 176 192 208 224 240 136 152 168 184 200 216 232 248 1024 1152 1280 1408 1536 1664 1792 1920 (by decide) (by decide) (by decide)
  unitL arg2 arg4 harg4 arg6 arg7 256 264 2048 (by decide) (by decide) (by decide) 256 272 288 304 320 336 352 368 264 280 296 312 328 344 360 376 2048 2176 2304 2432 2560 2688 2816 2944 (by decide) (by decide) (by decide)
  unitL arg2 arg4 harg4 arg6 arg7 384 392 3072 (by decide) (by decide) (by decide) 384 400 416 432 448 464 480 496 392 408 424 440 456 472 488 504 3072 3200 3328 3456 3584 3712 3840 3968 (by decide) (by decide) (by decide)
  unitL arg2 arg4 harg4 arg6 arg7 512 520 4096 (by decide) (by decide) (by decide) 512 528 544 560 576 592 608 624 520 536 552 568 584 600 616 632 4096 4224 4352 4480 4608 4736 4864 4992 (by decide) (by decide) (by decide)
  unitL arg2 arg4 harg4 arg6 arg7 640 648 5120 (by decide) (by decide) (by decide) 640 656 672 688 704 720 736 752 648 664 680 696 712 728 744 760 5120 5248 5376 5504 5632 5760 5888 6016 (by decide) (by decide) (by decide)
  unitL arg2 arg4 harg4 arg6 arg7 768 776 6144 (by decide) (by decide) (by decide) 768 784 800 816 832 848 864 880 776 792 808 824 840 856 872 888 6144 6272 6400 6528 6656 6784 6912 7040 (by decide) (by decide) (by decide)
  unitL arg2 arg4 harg4 arg6 arg7 896 904 7168 (by decide) (by decide) (by decide) 896 912 928 944 960 976 992 1008 904 920 936 952 968 984 1000 1016 7168 7296 7424 7552 7680 7808 7936 8064 (by decide) (by decide) (by decide)
  unitL arg2 arg4 harg4 arg6 arg7 1024 1032 8192 (by decide) (by decide) (by decide) 1024 1040 1056 1072 1088 1104 1120 1136 1032 1048 1064 1080 1096 1112 1128 1144 8192 8320 8448 8576 8704 8832 8960 9088 (by decide) (by decide) (by decide)
  unitL arg2 arg4 harg4 arg6 arg7 1152 1160 9216 (by decide) (by decide) (by decide) 1152 1168 1184 1200 1216 1232 1248 1264 1160 1176 1192 1208 1224 1240 1256 1272 9216 9344 9472 9600 9728 9856 9984 10112 (by decide) (by decide) (by decide)
  unitL arg2 arg4 harg4 arg6 arg7 1280 1288 10240 (by decide) (by decide) (by decide) 1280 1296 1312 1328 1344 1360 1376 1392 1288 1304 1320 1336 1352 1368 1384 1400 10240 10368 10496 10624 10752 10880 11008 11136 (by decide) (by decide) (by decide)
  unitL arg2 arg4 harg4 arg6 arg7 1408 1416 11264 (by decide) (by decide) (by decide) 1408 1424 1440 1456 1472 1488 1504 1520 1416 1432 1448 1464 1480 1496 1512 1528 11264 11392 11520 11648 11776 11904 12032 12160 (by decide) (by decide) (by decide)
  unitL arg2 arg4 harg4 arg6 arg7 1536 1544 12288 (by decide) (by decide) (by decide) 1536 1552 1568 1584 1600 1616 1632 1648 1544 1560 1576 1592 1608 1624 1640 1656 12288 12416 12544 12672 12800 12928 13056 13184 (by decide) (by decide) (by decide)
  unitL arg2 arg4 harg4 arg6 arg7 1664 1672 13312 (by decide) (by decide) (by decide) 1664 1680 1696 1712 1728 1744 1760 1776 1672 1688 1704 1720 1736 1752 1768 1784 13312 13440 13568 13696 13824 13952 14080 14208 (by decide) (by decide) (by decide)
  unitL arg2 arg4 harg4 arg6 arg7 1792 1800 14336 (by decide) (by decide) (by decide) 1792 1808 1824 1840 1856 1872 1888 1904 1800 1816 1832 1848 1864 1880 1896 1912 14336 14464 14592 14720 14848 14976 15104 15232 (by decide) (by decide) (by decide)
  unitL arg2 arg4 harg4 arg6 arg7 1920 1928 15360 (by decide) (by decide) (by decide) 1920 1936 1952 1968 1984 2000 2016 2032 1928 1944 1960 1976 1992 2008 2024 2040 15360 15488 15616 15744 15872 16000 16128 16256 (by decide) (by decide) (by decide)
  unitL arg2 arg4 harg4 arg6 arg7 2048 2056 16384 (by decide) (by decide) (by decide) 2048 2064 2080 2096 2112 2128 2144 2160 2056 2072 2088 2104 2120 2136 2152 2168 16384 16512 16640 16768 16896 17024 17152 17280 (by decide) (by decide) (by decide)
  unitL arg2 arg4 harg4 arg6 arg7 2176 2184 17408 (by decide) (by decide) (by decide) 2176 2192 2208 2224 2240 2256 2272 2288 2184 2200 2216 2232 2248 2264 2280 2296 17408 17536 17664 17792 17920 18048 18176 18304 (by decide) (by decide) (by decide)
  pure ⟨⟩

open scoped Idealize.ShloMosaic.ProgEq
set_option maxHeartbeats 4000000 in
prog_eq Cert.Kernel.Own.printed_eq : Cert.Kernel.cc0_relayout Cert.Kernel.Own.body from Cert.Kernel to Cert.Kernel at Bits inferInstance by (intros; rfl)

end Cert.Kernel.Own
-- ==== Proof.OnBits.Rules.lean ====
/-
  What each of the body's loads and stores does, stated on the contents that the core reads through the array's memref:
  a load continues at the elements of the rectangle, a store at the contents with the rectangle's elements replaced
  (`putT`, `putS`, `putO` for the three kinds of rectangle that the body stores to).
-/
module

public import proofs.«01_k».proof.Proof.OnBits.Units
public import proofs.«01_k».proof.Proof.Gen.Kernel.Frame.Runs
public import Idealize.ShloMosaic.Lib.ValueIdxCore
public import Idealize.ShloMosaic.Lib.ValueLayout
public import Idealize.ShloMosaic.Lib.BitcastFour

@[expose] public section

set_option maxRecDepth 16384

noncomputable section

namespace Cert.Kernel.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- The contents of a scratch array, of the input block, of the output block. -/
abbrev Scr := S144x128.Idx → BitVec 32
abbrev Blk := S1x2304x128.Idx → BitVec 32
abbrev Out := S1x16x4x18432.Idx → BitVec 8

/-! ## A load and a store through a rectangle -/

section
variable (c : Dev nD) (E : Set ℕ)

/-- A load at the head of a program. -/
theorem owns_load (Q : PUnit → sProp 𝕄) {cs : CoreSpace} {s : Shape} {e : EltTy} (m : Memref sig .tc cs s e) (r : LoadRect s) (hl : m.view.LoadsAt r) (X : s.Idx → Elt F e)
    (k : (r.shape.Idx → Elt F e) → Prog (TpuEff nD τ sig (Elt F) Λ₀ .tc) PUnit) :
    (owns (c : Thread nD τ) m fullShare X : sProp 𝕄)
      ⊢ iprop((owns (c : Thread nD τ) m fullShare X -∗ wp frame (wpE (defs₀ (F := F)) Variants.none c none) E (k (fun j => X (r.idx j))) Q)
        -∗ wp frame (wpE (defs₀ (F := F)) Variants.none c none) E (.op (.load m r hl) k) Q) := by
  unfold owns
  iintro ⟨%f, %hf, H⟩ Hk
  iapply (wp_load Variants.none (c : Thread nD τ) none E (Q := Q) (m := m) (r := r) (hl := hl) (k := k) (q := fullShare) (f := f)
    (S := m.view.set) (Finset.map_subset_map.mpr (Finset.subset_univ _))) $$ H
  iintro H
  rw [show m.view.readAt (Elt F) r f = (fun j => X (r.idx j)) from by funext j; rw [View.readAt_apply, hf]]
  iapply Hk
  iexists f
  isplitr
  · ipureintro; exact hf
  iexact H

/-- A store at the head of a program: `Y` is the contents with the rectangle's elements replaced. -/
theorem owns_store (Q : PUnit → sProp 𝕄) {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1) (X Y : s.Idx → Elt F e)
    (hY : ∀ j, Y (r.emb j) = w j) (hYn : ∀ y, (∀ j, r.emb j ≠ y) → Y y = X y)
    (k : PUnit → Prog (TpuEff nD τ sig (Elt F) Λ₀ .tc) PUnit) :
    (owns (c : Thread nD τ) m fullShare X : sProp 𝕄)
      ⊢ iprop((owns (c : Thread nD τ) m fullShare Y -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩ Hk
  iapply (wp_store Variants.none (c : Thread nD τ) none E (Q := Q) (m := m) (r := r) (w := w) (Mk := Finset.univ) (hx := hx) (hm := hm) (k := k) (f := f)
    (S := m.view.set) (by
      rw [show (m.access r).setOn Finset.univ = (Finset.univ.map r.emb).map m.view.emb from (Finset.map_map _ _ _).symm]
      exact Finset.map_subset_map.mpr (Finset.subset_univ _))) $$ H
  iintro H
  iapply Hk
  iexists ((m.access r).write (Elt F) f w Finset.univ)
  isplitr
  · ipureintro
    funext y
    by_cases h : ∃ j, r.emb j = y
    · obtain ⟨j, rfl⟩ := h
      rw [hY]
      exact View.read_slice_write_emb r f w (Finset.mem_univ j)
    · have h' : ∀ j, r.emb j ≠ y := fun j hj => h ⟨j, hj⟩
      rw [hYn y h', ← hf]
      refine View.read_slice_write_of_not_mem r f w Finset.univ (fun hm => ?_)
      obtain ⟨j, -, hj⟩ := Finset.mem_map.mp hm
      exact h' j hj
  iexact H

end

/-! ## Contents read at numbers -/

/-- The input block's word at row `r` and lane `l`. -/
def atW (X : Blk) (r l : ℕ) : BitVec 32 := if h : r < 2304 ∧ l < 128 then X (ix3 0 ⟨r, h.1⟩ ⟨l, h.2⟩) else 0

/-- A scratch array's word at row `r` and lane `l`. -/
def atS (X : Scr) (r l : ℕ) : BitVec 32 := if h : r < 144 ∧ l < 128 then X (ix2 ⟨r, h.1⟩ ⟨l, h.2⟩) else 0

/-! ## The contents after a store -/

/-- A scratch array with the slab `w` at every ninth row from row `r`. -/
def putT (X : Scr) (r : ℕ) (w : Slab) : Scr := fun y =>
  if h : r ≤ (y 0).val ∧ ((y 0).val - r) % 9 = 0 ∧ ((y 0).val - r) / 9 < 8 then w (ix2 ⟨((y 0).val - r) / 9, h.2.2⟩ (y 1)) else X y

/-- A scratch array with the slab `w` at eight rows from row `r`. -/
def putS (X : Scr) (r : ℕ) (w : Slab) : Scr := fun y =>
  if h : r ≤ (y 0).val ∧ (y 0).val - r < 8 then w (ix2 ⟨(y 0).val - r, h.2⟩ (y 1)) else X y

/-- Byte `b` of a word. -/
def byteOf (b : ℕ) (x : BitVec 32) : BitVec 8 := x.extractLsb' (8 * b) 8

/-- The output block with the bytes of the slab `w` at rows `r` to `r + 7` and columns `o` to `o + 127`. -/
def putO (X : Out) (r o : ℕ) (w : Slab) : Out := fun y =>
  if h : (r ≤ (y 1).val ∧ (y 1).val - r < 8) ∧ (o ≤ (y 3).val ∧ (y 3).val - o < 128) then
    byteOf (y 2).val (w (ix2 ⟨(y 1).val - r, h.1.2⟩ ⟨(y 3).val - o, h.2.2⟩)) else X y

/-- A slab's bytes at an index: byte `b` of the word. -/
theorem bytesOf_apply [Facts] (w : Slab) (j : S1x8x4x128.Idx) : bytesOf w j = byteOf (j 2).val (w (ix2 (j 1) (j 3))) := by
  obtain ⟨a, s, b, l, rfl⟩ : ∃ a s b l, j = ix4 a s b l := ⟨j 0, j 1, j 2, j 3, eq_ix4 j⟩
  unfold bytesOf
  rw [shapeCast_abc_1abc_apply]
  have h32 : 4 * s.val + b.val < 32 := by have := s.isLt; have := b.isLt; omega
  have e1 : ∀ (v : S32x128.Idx → BitVec 8), shapeCast S8x4x128 v shapeCasts_S32x128_S8x4x128 (ix3 s b l) = v (ix2 ⟨4 * s.val + b.val, h32⟩ l) := by
    intro v
    refine shapeCast_apply v _ _ _ ?_
    rw [Shape.rowMajor_val_two, Shape.rowMajor_val_three]
    show (4 * s.val + b.val) * 128 + l.val = (s.val * 4 + b.val) * 128 + l.val
    omega
  rw [e1]
  apply BitVec.eq_of_getLsbD_eq
  intro q hq
  rw [bitcast_getLsbD _ _ _ q hq (by decide)]
  have hrow : (S32x128.row (ix2 ⟨4 * s.val + b.val, h32⟩ l)) = 4 * s.val + b.val := rfl
  have e2 : (S32x128.row (ix2 ⟨4 * s.val + b.val, h32⟩ l) * 8 + q) % 32 = 8 * b.val + q := by
    rw [hrow]; have := b.isLt; omega
  have e3 : (S32x128.row (ix2 ⟨4 * s.val + b.val, h32⟩ l) * 8 + q) / 32 = s.val := by
    rw [hrow]; have := b.isLt; omega
  unfold byteOf
  rw [BitVec.getLsbD_extractLsb', e2]
  show _ = (decide (q < 8) && (w (ix2 s l)).getLsbD (8 * b.val + q))
  rw [decide_eq_true hq, Bool.true_and]
  congr 2
  funext a
  match a with
  | ⟨0, _⟩ => exact Fin.ext ((Shape.Bitcasts.srcIdx_row _ _ _ _ ⟨0, Nat.zero_lt_two⟩ rfl).trans e3)
  | ⟨1, _⟩ => exact Fin.ext (Shape.Bitcasts.srcIdx_other _ _ _ _ ⟨1, Nat.one_lt_two⟩ (by show ¬ 1 + 2 = 2; omega))

/-! ## The body's loads and stores at the head of a program -/

section
variable [Facts] (c : Dev nD) (E : Set ℕ)

/-- Loading eight rows of the input block. -/
theorem wp_ldW (Q : PUnit → sProp 𝕄) (m : Memref sig .tc .vmem S1x2304x128 .i32) (o : ℕ) (h : o ≤ 2296) (X : Blk) (K : Slab → Prog (TpuEff nD τ sig (Elt F) Λ₀ .tc) PUnit) :
    (owns (Val := Elt F) (c : Thread nD τ) m fullShare X : sProp 𝕄)
      ⊢ iprop((owns (Val := Elt F) (c : Thread nD τ) m fullShare X -∗ wp frame (wpE (defs₀ (F := F)) Variants.none c none) E (K (fun j => atW X (o + (j 0).val) (j 1).val)) Q)
        -∗ wp frame (wpE (defs₀ (F := F)) Variants.none c none) E (ldW m o h >>= K) Q) := by
  have e : (fun j : S8x128.Idx => atW X (o + (j 0).val) (j 1).val)
      = shapeCast S8x128 (fun j => X ((Rect.unit (s := S1x2304x128) ![0, o, 0] S1x8x128.size (inbW h)).toLoadRect.idx j)) shapeCasts_S1x8x128_S8x128 := by
    funext j
    obtain ⟨s, l, rfl⟩ : ∃ s l, j = ix2 s l := ⟨j 0, j 1, eq_ix2 j⟩
    refine Eq.trans ?_ (shapeCast_1ab_ab_apply _ _ s l).symm
    have hc : o + s.val < 2304 ∧ l.val < 128 := ⟨by have := s.isLt; omega, l.isLt⟩
    refine (dif_pos hc).trans (congrArg X ?_)
    funext a
    match a with
    | ⟨0, _⟩ => rfl
    | ⟨1, _⟩ => exact Fin.ext (by show o + s.val = o + 1 * s.val; omega)
    | ⟨2, _⟩ => exact Fin.ext (by show l.val = 0 + 1 * l.val; omega)
  rw [e]
  exact owns_load c E Q m _ (View.loadsAt_vmem h_S1x8x128) X (fun v => K (shapeCast S8x128 v shapeCasts_S1x8x128_S8x128))

/-- Loading eight rows of a scratch array. -/
theorem wp_ldS (Q : PUnit → sProp 𝕄) (m : Memref sig .tc .vmem S144x128 .i32) (o : ℕ) (h : o ≤ 136) (X : Scr) (K : Slab → Prog (TpuEff nD τ sig (Elt F) Λ₀ .tc) PUnit) :
    (owns (Val := Elt F) (c : Thread nD τ) m fullShare X : sProp 𝕄)
      ⊢ iprop((owns (Val := Elt F) (c : Thread nD τ) m fullShare X -∗ wp frame (wpE (defs₀ (F := F)) Variants.none c none) E (K (fun j => atS X (o + (j 0).val) (j 1).val)) Q)
        -∗ wp frame (wpE (defs₀ (F := F)) Variants.none c none) E (ldS m o h >>= K) Q) := by
  have e : (fun j : S8x128.Idx => atS X (o + (j 0).val) (j 1).val)
      = (fun j => X ((Rect.unit (s := S144x128) ![o, 0] S8x128.size (inbS h)).toLoadRect.idx j)) := by
    funext j
    have hc : o + (j 0).val < 144 ∧ (j 1).val < 128 := ⟨by have : (j 0).val < 8 := (j 0).isLt; omega, (j 1).isLt⟩
    refine (dif_pos hc).trans (congrArg X ?_)
    funext a
    match a with
    | ⟨0, _⟩ => exact Fin.ext (by show o + (j 0).val = o + 1 * (j 0).val; omega)
    | ⟨1, _⟩ => exact Fin.ext (by show (j 1).val = 0 + 1 * (j 1).val; omega)
  rw [e]
  exact owns_load c E Q m (Rect.unit (s := S144x128) ![o, 0] S8x128.size (inbS h)).toLoadRect (View.loadsAt_vmem h_S8x128) X K

/-- Loading every ninth row of a scratch array. -/
theorem wp_ldT (Q : PUnit → sProp 𝕄) (m : Memref sig .tc .vmem S144x128 .i32) (o : ℕ) (h : o ≤ 80) (X : Scr) (K : Slab → Prog (TpuEff nD τ sig (Elt F) Λ₀ .tc) PUnit) :
    (owns (Val := Elt F) (c : Thread nD τ) m fullShare X : sProp 𝕄)
      ⊢ iprop((owns (Val := Elt F) (c : Thread nD τ) m fullShare X -∗ wp frame (wpE (defs₀ (F := F)) Variants.none c none) E (K (fun j => atS X (o + 9 * (j 0).val) (j 1).val)) Q)
        -∗ wp frame (wpE (defs₀ (F := F)) Variants.none c none) E (ldT m o h >>= K) Q) := by
  have e : (fun j : S8x128.Idx => atS X (o + 9 * (j 0).val) (j 1).val)
      = (fun j => X ((⟨![o, 0], S8x128.size, ![9, 1], inbT h⟩ : LoadRect S144x128).idx j)) := by
    funext j
    have hc : o + 9 * (j 0).val < 144 ∧ (j 1).val < 128 := ⟨by have : (j 0).val < 8 := (j 0).isLt; omega, (j 1).isLt⟩
    refine (dif_pos hc).trans (congrArg X ?_)
    funext a
    match a with
    | ⟨0, _⟩ => rfl
    | ⟨1, _⟩ => exact Fin.ext (by show (j 1).val = 0 + 1 * (j 1).val; omega)
  rw [e]
  exact owns_load c E Q m (⟨![o, 0], S8x128.size, ![9, 1], inbT h⟩ : LoadRect S144x128) (View.loadsAt_vmem h_S8x128) X K

/-- Storing to eight rows of a scratch array. -/
theorem wp_stS (Q : PUnit → sProp 𝕄) (m : Memref sig .tc .vmem S144x128 .i32) (o : ℕ) (h : o ≤ 136) (w : Slab) (X : Scr) (K : PUnit → Prog (TpuEff nD τ sig (Elt F) Λ₀ .tc) PUnit) :
    (owns (Val := Elt F) (c : Thread nD τ) m fullShare X : sProp 𝕄)
      ⊢ iprop((owns (Val := Elt F) (c : Thread nD τ) m fullShare (putS X o w) -∗ wp frame (wpE (defs₀ (F := F)) Variants.none c none) E (K ⟨⟩) Q)
        -∗ wp frame (wpE (defs₀ (F := F)) Variants.none c none) E (stS m o h w >>= K) Q) := by
  iintro H Hk
  iapply (owns_load c E Q m _ (View.loadsAt_vmem h_S8x128) X _) $$ H
  iintro H
  iapply (owns_store c E Q m (Rect.unit (s := S144x128) ![o, 0] S8x128.size (inbS h)) _ _ _ X (putS X o w) ?_ ?_ K) $$ H
  · intro j
    have h8 : (j 0).val < 8 := (j 0).isLt
    unfold putS
    have hc : o ≤ o + 1 * (j 0).val ∧ o + 1 * (j 0).val - o < 8 := by omega
    rw [shapeCast_self]
    refine (dif_pos hc).trans ?_
    refine congrArg w ?_
    funext a
    match a with
    | ⟨0, _⟩ => exact Fin.ext (by show o + 1 * (j 0).val - o = (j 0).val; omega)
    | ⟨1, _⟩ => exact Fin.ext (by show 0 + 1 * (j 1).val = (j 1).val; omega)
  · intro y hy
    unfold putS
    rw [dif_neg]
    rintro ⟨h1, h2⟩
    refine hy (ix2 ⟨(y 0).val - o, h2⟩ (y 1)) ?_
    funext a
    match a with
    | ⟨0, _⟩ => exact Fin.ext (by show o + 1 * ((y 0).val - o) = (y 0).val; omega)
    | ⟨1, _⟩ => exact Fin.ext (by show 0 + 1 * (y 1).val = (y 1).val; omega)
  iexact Hk

/-- Storing to every ninth row of a scratch array. -/
theorem wp_stT (Q : PUnit → sProp 𝕄) (m : Memref sig .tc .vmem S144x128 .i32) (o : ℕ) (h : o ≤ 80) (w : Slab) (X : Scr) (K : PUnit → Prog (TpuEff nD τ sig (Elt F) Λ₀ .tc) PUnit) :
    (owns (Val := Elt F) (c : Thread nD τ) m fullShare X : sProp 𝕄)
      ⊢ iprop((owns (Val := Elt F) (c : Thread nD τ) m fullShare (putT X o w) -∗ wp frame (wpE (defs₀ (F := F)) Variants.none c none) E (K ⟨⟩) Q)
        -∗ wp frame (wpE (defs₀ (F := F)) Variants.none c none) E (stT m o h w >>= K) Q) := by
  iintro H Hk
  iapply (owns_load c E Q m _ (View.loadsAt_vmem h_S8x128) X _) $$ H
  iintro H
  iapply (owns_store c E Q m ⟨(⟨![o, 0], S8x128.size, ![9, 1], inbT h⟩ : LoadRect S144x128), spos_9_1⟩ _ _ _ X (putT X o w) ?_ ?_ K) $$ H
  · intro j
    have h8 : (j 0).val < 8 := (j 0).isLt
    unfold putT
    have hc : o ≤ o + 9 * (j 0).val ∧ (o + 9 * (j 0).val - o) % 9 = 0 ∧ (o + 9 * (j 0).val - o) / 9 < 8 := by omega
    rw [shapeCast_self]
    refine (dif_pos hc).trans ?_
    refine congrArg w ?_
    funext a
    match a with
    | ⟨0, _⟩ => exact Fin.ext (by show (o + 9 * (j 0).val - o) / 9 = (j 0).val; omega)
    | ⟨1, _⟩ => exact Fin.ext (by show 0 + 1 * (j 1).val = (j 1).val; omega)
  · intro y hy
    unfold putT
    rw [dif_neg]
    rintro ⟨h1, h2, h3⟩
    refine hy (ix2 ⟨((y 0).val - o) / 9, h3⟩ (y 1)) ?_
    funext a
    match a with
    | ⟨0, _⟩ => exact Fin.ext (by show o + 9 * (((y 0).val - o) / 9) = (y 0).val; omega)
    | ⟨1, _⟩ => exact Fin.ext (by show 0 + 1 * (y 1).val = (y 1).val; omega)
  iexact Hk

/-- Storing a slab's bytes to the output block. -/
theorem wp_stO (Q : PUnit → sProp 𝕄) (m : Memref sig .tc .vmem S1x16x4x18432 .i8) (hm : m.IsWhole) (r o : ℕ) (hr : r ≤ 8) (h : o ≤ 18304) (w : Slab) (X : Out) (K : PUnit → Prog (TpuEff nD τ sig (Elt F) Λ₀ .tc) PUnit) :
    (owns (Val := Elt F) (c : Thread nD τ) m fullShare X : sProp 𝕄)
      ⊢ iprop((owns (Val := Elt F) (c : Thread nD τ) m fullShare (putO X r o w) -∗ wp frame (wpE (defs₀ (F := F)) Variants.none c none) E (K ⟨⟩) Q)
        -∗ wp frame (wpE (defs₀ (F := F)) Variants.none c none) E (stO m hm r o hr h w >>= K) Q) := by
  iintro H Hk
  iapply (owns_load c E Q m _ (View.loadsAt_vmem h_S1x8x4x128) X _) $$ H
  iintro H
  iapply (owns_store c E Q m (Rect.unit (s := S1x16x4x18432) ![0, r, 0, o] S1x8x4x128.size (inbO hr h)) _ _ _ X (putO X r o w) ?_ ?_ K) $$ H
  · intro j
    have h8 : (j 1).val < 8 := (j 1).isLt
    have h128 : (j 3).val < 128 := (j 3).isLt
    rw [bytesOf_apply]
    unfold putO
    have hc : (r ≤ r + 1 * (j 1).val ∧ r + 1 * (j 1).val - r < 8) ∧ (o ≤ o + 1 * (j 3).val ∧ o + 1 * (j 3).val - o < 128) := by omega
    refine (dif_pos hc).trans ?_
    refine congr (congrArg byteOf ?_) (congrArg w ?_)
    · show 0 + 1 * (j 2).val = (j 2).val; omega
    funext a
    match a with
    | ⟨0, _⟩ => exact Fin.ext (by show r + 1 * (j 1).val - r = (j 1).val; omega)
    | ⟨1, _⟩ => exact Fin.ext (by show o + 1 * (j 3).val - o = (j 3).val; omega)
  · intro y hy
    unfold putO
    rw [dif_neg]
    rintro ⟨⟨h1, h2⟩, h3, h4⟩
    refine hy (ix4 0 ⟨(y 1).val - r, h2⟩ (y 2) ⟨(y 3).val - o, h4⟩) ?_
    have h0 : (y 0).val < 1 := (y 0).isLt
    funext a
    match a with
    | ⟨0, _⟩ => exact Fin.ext (by show 0 + 1 * 0 = (y 0).val; omega)
    | ⟨1, _⟩ => exact Fin.ext (by show r + 1 * ((y 1).val - r) = (y 1).val; omega)
    | ⟨2, _⟩ => exact Fin.ext (by show 0 + 1 * (y 2).val = (y 2).val; omega)
    | ⟨3, _⟩ => exact Fin.ext (by show o + 1 * ((y 3).val - o) = (y 3).val; omega)
  iexact Hk

end

end Cert.Kernel.Own
-- ==== Proof.OnBits.NibVal.lean ====
/-
  The nibble transpose at one index. `nibF f g` is the word whose nibble `h` is nibble `f` of the word `g h`;
  `nib` computes it (`nib_apply`), and doing it twice brings the nibble back (`nibF_nibF`).
-/
module

public import proofs.«01_k».proof.Proof.OnBits.Nib
public import Idealize.ShloMosaic.Lib.Pointwise.ElementwiseCore
public import Mathlib.Tactic.IntervalCases

@[expose] public section

noncomputable section

namespace Cert.Kernel.Own

open Idealize.ShloMosaic

/-- Nibble `f` of the word `x`, moved to nibble `h`. -/
def nibAt (f h : ℕ) (x : BitVec 32) : BitVec 32 := ((x >>> (4 * f)) &&& 15#32) <<< (4 * h)

/-- The word whose nibble `h` is nibble `f` of the word `g h`. -/
def nibF (f : ℕ) (g : ℕ → BitVec 32) : BitVec 32 :=
  nibAt f 0 (g 0) ||| nibAt f 1 (g 1) ||| nibAt f 2 (g 2) ||| nibAt f 3 (g 3)
    ||| nibAt f 4 (g 4) ||| nibAt f 5 (g 5) ||| nibAt f 6 (g 6) ||| nibAt f 7 (g 7)

/-- The bits of a moved nibble. -/
theorem nibAt_bit (f h : ℕ) (x : BitVec 32) (i : ℕ) (hi : i < 32) :
    (nibAt f h x).getLsbD i = (decide (i / 4 = h) && x.getLsbD (4 * f + i % 4)) := by
  have h15 : ∀ k : ℕ, (15#32 : BitVec 32).getLsbD k = decide (k < 4) := by
    intro k
    by_cases hk : k < 4
    · interval_cases k <;> rfl
    · rw [decide_eq_false hk]
      by_cases hk2 : k < 32
      · interval_cases k <;> first | rfl | omega
      · exact BitVec.getLsbD_of_ge _ _ (by omega)
  unfold nibAt
  rw [BitVec.getLsbD_shiftLeft, BitVec.getLsbD_and, BitVec.getLsbD_ushiftRight, h15, decide_eq_true hi]
  by_cases e : i / 4 = h
  · rw [decide_eq_true e, decide_eq_false (show ¬ i < 4 * h by omega), decide_eq_true (show i - 4 * h < 4 by omega),
      show i - 4 * h = i % 4 by omega]
    simp
  · rw [decide_eq_false e]
    by_cases e2 : i < 4 * h
    · rw [decide_eq_true e2]; simp
    · rw [decide_eq_false (show ¬ i - 4 * h < 4 by omega)]; simp

/-- The bits of the word. -/
theorem nibF_bit (f : ℕ) (g : ℕ → BitVec 32) (i : ℕ) (hi : i < 32) :
    (nibF f g).getLsbD i = (g (i / 4)).getLsbD (4 * f + i % 4) := by
  unfold nibF
  simp only [BitVec.getLsbD_or, nibAt_bit _ _ _ _ hi]
  generalize 4 * f + i % 4 = p
  have hk : i / 4 < 8 := by omega
  generalize i / 4 = k at hk ⊢
  interval_cases k <;> simp

/-- Nibble `h` of the words `nibF f (w · g)` is nibble `f` of the words `w h g`. -/
theorem nibF_nibF (f h : ℕ) (hh : h < 8) (w : ℕ → ℕ → BitVec 32) :
    nibF h (fun g => nibF f (fun h' => w h' g)) = nibF f (fun g => w h g) := by
  apply BitVec.eq_of_getLsbD_eq
  intro i hi
  rw [nibF_bit _ _ _ hi, nibF_bit _ _ _ hi, nibF_bit _ _ _ (by omega)]
  rw [show (4 * h + i % 4) / 4 = h by omega, show (4 * h + i % 4) % 4 = i % 4 by omega]

/-- Only the first eight words count. -/
theorem nibF_congr (f : ℕ) {g g' : ℕ → BitVec 32} (h : ∀ k, k < 8 → g k = g' k) : nibF f g = nibF f g' := by
  apply BitVec.eq_of_getLsbD_eq
  intro i hi
  rw [nibF_bit _ _ _ hi, nibF_bit _ _ _ hi, h _ (by omega)]

/-- The bits of the 16-bit level. -/
theorem lvl16_bit (a : Bool) (u v : Slab) (j : S8x128.Idx) (i : ℕ) (hi : i < 32) :
    (lvl16 a u v j).getLsbD i = if i < 16 then (u j).getLsbD (16 * a.toNat + i) else (v j).getLsbD (16 * a.toNat + (i - 16)) := by
  have hs : ∀ (w : Slab), shr 16#32 w j = (w j) >>> 16 := fun w => rfl
  cases a
  · show (packElementwiseI16 u v j).getLsbD i = _
    rw [packElementwiseI16_apply, BitVec.getLsbD_append]
    split_ifs with h
    · simp [BitVec.getLsbD_setWidth, h]
    · simp [BitVec.getLsbD_setWidth]; intro; omega
  · show (packElementwiseI16 (shr 16#32 u) (shr 16#32 v) j).getLsbD i = _
    rw [packElementwiseI16_apply, BitVec.getLsbD_append, hs, hs]
    split_ifs with h
    · simp [BitVec.getLsbD_setWidth, h]
    · simp [BitVec.getLsbD_setWidth]; intro; omega

/-- The bits of an interleaving of bytes. -/
theorem pkm8_bit (u v : Slab) (j : S8x128.Idx) (i : ℕ) (hi : i < 32) :
    (pkm 16711935#32 8#32 u v j).getLsbD i = if i % 16 < 8 then (u j).getLsbD i else (v j).getLsbD (i - 8) := by
  show (((u j) &&& 16711935#32) ||| (((v j) &&& 16711935#32) <<< 8)).getLsbD i = _
  interval_cases i <;> simp

/-- The bits of an interleaving of nibbles. -/
theorem pkm4_bit (u v : Slab) (j : S8x128.Idx) (i : ℕ) (hi : i < 32) :
    (pkm 252645135#32 4#32 u v j).getLsbD i = if i % 8 < 4 then (u j).getLsbD i else (v j).getLsbD (i - 4) := by
  show (((u j) &&& 252645135#32) ||| (((v j) &&& 252645135#32) <<< 4)).getLsbD i = _
  interval_cases i <;> simp

/-- The bits of the 8-bit level. -/
theorem lvl8_bit (b : Bool) (u v : Slab) (j : S8x128.Idx) (i : ℕ) (hi : i < 32) :
    (lvl8 b u v j).getLsbD i = if i % 16 < 8 then (u j).getLsbD (8 * b.toNat + i) else (v j).getLsbD (8 * b.toNat + (i - 8)) := by
  have hs : ∀ (w : Slab) (k : ℕ), (shr 8#32 w j).getLsbD k = (w j).getLsbD (8 + k) := fun w k => by
    show ((w j) >>> 8).getLsbD k = _
    rw [BitVec.getLsbD_ushiftRight]
  cases b
  · show (pkm 16711935#32 8#32 u v j).getLsbD i = _
    rw [pkm8_bit _ _ _ _ hi]; simp
  · show (pkm 16711935#32 8#32 (shr 8#32 u) (shr 8#32 v) j).getLsbD i = _
    rw [pkm8_bit _ _ _ _ hi, hs, hs]; simp

/-- The bits of the 4-bit level. -/
theorem lvl4_bit (c : Bool) (u v : Slab) (j : S8x128.Idx) (i : ℕ) (hi : i < 32) :
    (lvl4 c u v j).getLsbD i = if i % 8 < 4 then (u j).getLsbD (4 * c.toNat + i) else (v j).getLsbD (4 * c.toNat + (i - 4)) := by
  have hs : ∀ (w : Slab) (k : ℕ), (shr 4#32 w j).getLsbD k = (w j).getLsbD (4 + k) := fun w k => by
    show ((w j) >>> 4).getLsbD k = _
    rw [BitVec.getLsbD_ushiftRight]
  cases c
  · show (pkm 252645135#32 4#32 u v j).getLsbD i = _
    rw [pkm4_bit _ _ _ _ hi]; simp
  · show (pkm 252645135#32 4#32 (shr 4#32 u) (shr 4#32 v) j).getLsbD i = _
    rw [pkm4_bit _ _ _ _ hi, hs, hs]; simp

/-- Output slab `4 * a + 2 * b + c` of the nibble transpose, at an index. -/
theorem nib_apply (a b c : Bool) (G : ℕ → Slab) (j : S8x128.Idx) :
    nib a b c (G 0) (G 1) (G 2) (G 3) (G 4) (G 5) (G 6) (G 7) j = nibF (4 * a.toNat + 2 * b.toNat + c.toNat) (fun h => G h j) := by
  apply BitVec.eq_of_getLsbD_eq
  intro i hi
  have ha : a.toNat ≤ 1 := Bool.toNat_le a
  have hb : b.toNat ≤ 1 := Bool.toNat_le b
  have hc : c.toNat ≤ 1 := Bool.toNat_le c
  have key : ∀ (k k' p p' : ℕ), k = k' → p = p' → (G k j).getLsbD p = (G k' j).getLsbD p' := by
    rintro k _ p _ rfl rfl; rfl
  unfold nib
  rw [nibF_bit _ _ _ hi, lvl4_bit _ _ _ _ _ hi]
  split_ifs with h1
  · rw [lvl8_bit _ _ _ _ _ (by omega)]
    split_ifs with h2
    · rw [lvl16_bit _ _ _ _ _ (by omega)]
      split_ifs with h3
      · exact key _ _ _ _ (by omega) (by omega)
      · exact key _ _ _ _ (by omega) (by omega)
    · rw [lvl16_bit _ _ _ _ _ (by omega)]
      split_ifs with h3
      · exact key _ _ _ _ (by omega) (by omega)
      · exact key _ _ _ _ (by omega) (by omega)
  · rw [lvl8_bit _ _ _ _ _ (by omega)]
    split_ifs with h2
    · rw [lvl16_bit _ _ _ _ _ (by omega)]
      split_ifs with h3
      · exact key _ _ _ _ (by omega) (by omega)
      · exact key _ _ _ _ (by omega) (by omega)
    · rw [lvl16_bit _ _ _ _ _ (by omega)]
      split_ifs with h3
      · exact key _ _ _ _ (by omega) (by omega)
      · exact key _ _ _ _ (by omega) (by omega)

end Cert.Kernel.Own
-- ==== Proof.OnBits.Halves.lean ====
/-
  What the three steps of a unit leave: `halfA` the nibble transposes of eight slabs of the input block in 72 rows of the
  first scratch array (`putA`), `mid` the first scratch array's 128 by 128 words transposed in the second (`putM`), `halfO`
  the nibble transposes of eight slabs of the second scratch array in the output block (`putH`).
-/
module

public import proofs.«01_k».proof.Proof.OnBits.Rules
public import proofs.«01_k».proof.Proof.OnBits.NibVal
public import Idealize.ShloMosaic.Lib.Pipeline.Value

@[expose] public section

set_option maxRecDepth 16384

noncomputable section

namespace Cert.Kernel.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The contents -/

/-- Rows `r + 9 * s + f`, `s` and `f` below 8, at the words `g f s l`. -/
def putA (X : Scr) (r : ℕ) (g : ℕ → ℕ → ℕ → BitVec 32) : Scr := fun y =>
  if r ≤ (y 0).val ∧ (y 0).val - r < 72 ∧ ((y 0).val - r) % 9 < 8 then g (((y 0).val - r) % 9) (((y 0).val - r) / 9) (y 1).val else X y

/-- A slab from its words. -/
def slab (g : ℕ → ℕ → BitVec 32) : Slab := fun j => g (j 0).val (j 1).val

/-- A slab stored at every ninth row, at a row. -/
theorem putT_slab (X : Scr) (r : ℕ) (g : ℕ → ℕ → BitVec 32) (y : S144x128.Idx) :
    putT X r (slab g) y = if r ≤ (y 0).val ∧ ((y 0).val - r) % 9 = 0 ∧ ((y 0).val - r) / 9 < 8 then g (((y 0).val - r) / 9) (y 1).val else X y := by
  unfold putT slab
  split_ifs <;> rfl

/-- A slab stored at eight rows, at a row. -/
theorem putS_slab (X : Scr) (r : ℕ) (g : ℕ → ℕ → BitVec 32) (y : S144x128.Idx) :
    putS X r (slab g) y = if r ≤ (y 0).val ∧ (y 0).val - r < 8 then g ((y 0).val - r) (y 1).val else X y := by
  unfold putS slab
  split_ifs <;> rfl

/-- Eight slabs stored at rows `r` to `r + 7`, each at every ninth row. -/
theorem putT_eight (X : Scr) (r : ℕ) (g : ℕ → ℕ → ℕ → BitVec 32) :
    putT (putT (putT (putT (putT (putT (putT (putT X r (slab (g 0))) (r + 1) (slab (g 1))) (r + 2) (slab (g 2))) (r + 3) (slab (g 3)))
      (r + 4) (slab (g 4))) (r + 5) (slab (g 5))) (r + 6) (slab (g 6))) (r + 7) (slab (g 7)) = putA X r g := by
  funext y
  simp only [putT_slab, putA]
  generalize (y 0).val = a
  have key : ∀ (k k' s s' : ℕ), k = k' → s = s' → g k s (y 1).val = g k' s' (y 1).val := by
    rintro k _ s _ rfl rfl; rfl
  by_cases hA : r ≤ a ∧ a - r < 72 ∧ (a - r) % 9 < 8
  · rw [if_pos hA]
    obtain ⟨h1, h2, h3⟩ := hA
    obtain ⟨s, k, hk, hs, rfl⟩ : ∃ s k, k < 8 ∧ s < 8 ∧ a = r + 9 * s + k := ⟨(a - r) / 9, (a - r) % 9, h3, by omega, by omega⟩
    interval_cases k
    all_goals
      repeat rw [if_neg (by omega)]
      rw [if_pos (by omega)]
      exact key _ _ _ _ (by omega) (by omega)
  · rw [if_neg hA]
    repeat rw [if_neg (by omega)]

/-- The nibble transpose of eight slabs, as a slab. -/
theorem nib_slab (a b c : Bool) (g : ℕ → ℕ → ℕ → BitVec 32) :
    nib a b c (slab (g 0)) (slab (g 1)) (slab (g 2)) (slab (g 3)) (slab (g 4)) (slab (g 5)) (slab (g 6)) (slab (g 7))
      = slab (fun s l => nibF (4 * a.toNat + 2 * b.toNat + c.toNat) (fun h => g h s l)) :=
  funext fun j => nib_apply a b c (fun h => slab (g h)) j

/-! ## The first half step -/

section
variable [Facts] (c : Dev nD) (E : Set ℕ)

/-- `halfA`: eight slabs of the input block, 16 rows apart from row `b`, transposed to the first scratch array from row `r`. -/
theorem wp_halfA (Q : PUnit → sProp 𝕄) (m2 : Memref sig .tc .vmem S1x2304x128 .i32) (m6 : Memref sig .tc .vmem S144x128 .i32) (b r : ℕ) (hb : b ≤ 2184) (hr : r ≤ 73)
    (o0 o1 o2 o3 o4 o5 o6 o7 r0 r1 r2 r3 r4 r5 r6 r7 : ℕ) (H) (R) (W : Blk) (X : Scr) (K : PUnit → Prog (TpuEff nD τ sig (Elt F) Λ₀ .tc) PUnit) :
    iprop(owns (Val := Elt F) (c : Thread nD τ) m2 fullShare W ∗ owns (Val := Elt F) (c : Thread nD τ) m6 fullShare X : sProp 𝕄)
      ⊢ iprop((owns (Val := Elt F) (c : Thread nD τ) m2 fullShare W
            ∗ owns (Val := Elt F) (c : Thread nD τ) m6 fullShare (putA X r (fun f s l => nibF f (fun h => atW W (b + 16 * h + s) l)))
          -∗ wp frame (wpE (defs₀ (F := F)) Variants.none c none) E (K ⟨⟩) Q)
        -∗ wp frame (wpE (defs₀ (F := F)) Variants.none c none) E (halfA m2 m6 b r hb hr o0 o1 o2 o3 o4 o5 o6 o7 r0 r1 r2 r3 r4 r5 r6 r7 H R >>= K) Q) := by
  obtain ⟨rfl, rfl, rfl, rfl, rfl, rfl, rfl, rfl⟩ := H
  obtain ⟨rfl, rfl, rfl, rfl, rfl, rfl, rfl, rfl⟩ := R
  have hn : ∀ (a b' c' : Bool), _ = _ := fun a b' c' => nib_slab a b' c' (fun h s l => atW W (o0 + 16 * h + s) l)
  rw [← putT_eight]
  iintro ⟨H2, H6⟩ Hk
  unfold halfA
  simp only [bind_assoc]
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply Hk
  isplitl [H2]
  · iexact H2
  rw [show (slab fun s l => nibF 0 (fun h => atW W (o0 + 16 * h + s) l)) = _ from (hn false false false).symm,
    show (slab fun s l => nibF 1 (fun h => atW W (o0 + 16 * h + s) l)) = _ from (hn false false true).symm,
    show (slab fun s l => nibF 2 (fun h => atW W (o0 + 16 * h + s) l)) = _ from (hn false true false).symm,
    show (slab fun s l => nibF 3 (fun h => atW W (o0 + 16 * h + s) l)) = _ from (hn false true true).symm,
    show (slab fun s l => nibF 4 (fun h => atW W (o0 + 16 * h + s) l)) = _ from (hn true false false).symm,
    show (slab fun s l => nibF 5 (fun h => atW W (o0 + 16 * h + s) l)) = _ from (hn true false true).symm,
    show (slab fun s l => nibF 6 (fun h => atW W (o0 + 16 * h + s) l)) = _ from (hn true true false).symm,
    show (slab fun s l => nibF 7 (fun h => atW W (o0 + 16 * h + s) l)) = _ from (hn true true true).symm]
  iexact H6

/-! ## The middle step -/

/-- The word at row `l` and column `k` of the 128 by 128 words of a scratch array, transposed. -/
def tr (A : Scr) (l k : ℕ) : BitVec 32 := atS A (9 * (k / 8) + k % 8) l

/-- A scratch array with 128 by 128 words: row `8 * u + s` of them at row `9 * u + s`. -/
def putM (Y : Scr) (g : ℕ → ℕ → BitVec 32) : Scr := fun y =>
  if (y 0).val % 9 < 8 then g (8 * ((y 0).val / 9) + (y 0).val % 9) (y 1).val else Y y

/-- Sixteen slabs stored, each at eight of nine rows. -/
theorem putS_sixteen (Y : Scr) (g : ℕ → ℕ → BitVec 32) :
    (putS (putS (putS (putS (putS (putS (putS (putS (putS (putS (putS (putS (putS (putS (putS (putS Y 0 (slab (fun s l => g (0 + s) l))) 9 (slab (fun s l => g (8 + s) l))) 18 (slab (fun s l => g (16 + s) l))) 27 (slab (fun s l => g (24 + s) l))) 36 (slab (fun s l => g (32 + s) l))) 45 (slab (fun s l => g (40 + s) l))) 54 (slab (fun s l => g (48 + s) l))) 63 (slab (fun s l => g (56 + s) l))) 72 (slab (fun s l => g (64 + s) l))) 81 (slab (fun s l => g (72 + s) l))) 90 (slab (fun s l => g (80 + s) l))) 99 (slab (fun s l => g (88 + s) l))) 108 (slab (fun s l => g (96 + s) l))) 117 (slab (fun s l => g (104 + s) l))) 126 (slab (fun s l => g (112 + s) l))) 135 (slab (fun s l => g (120 + s) l)))
      = putM Y g := by
  funext y
  simp only [putS_slab, putM]
  have ha : (y 0).val < 144 := (y 0).isLt
  generalize (y 0).val = a at ha ⊢
  have key : ∀ (k k' : ℕ), k = k' → g k (y 1).val = g k' (y 1).val := by
    rintro k _ rfl; rfl
  obtain ⟨u, k, hk, hu, rfl⟩ : ∃ u k, k < 9 ∧ u < 16 ∧ a = 9 * u + k := ⟨a / 9, a % 9, by omega, by omega, by omega⟩
  by_cases h8 : k < 8
  · rw [if_pos (show (9 * u + k) % 9 < 8 by omega)]
    interval_cases u
    all_goals
      repeat rw [if_neg (by omega)]
      rw [if_pos (by omega)]
      exact key _ _ (by omega)
  · rw [if_neg (show ¬ (9 * u + k) % 9 < 8 by omega)]
    repeat rw [if_neg (by omega)]

/-- The stack of sixteen slabs at an index. -/
theorem stack_apply [Facts] (T : ℕ → Slab) (k : Fin 128) (l : Fin 128) :
    stack (T 0) (T 1) (T 2) (T 3) (T 4) (T 5) (T 6) (T 7) (T 8) (T 9) (T 10) (T 11) (T 12) (T 13) (T 14) (T 15) (ix2 k l)
      = T (k.val / 8) (ix2 ⟨k.val % 8, Nat.mod_lt _ (by decide)⟩ l) :=
  concatenate_ofFn_apply (t := S128x128) (s₁ := S8x128) 0 (fun n : Fin 16 => T n.val)
    concatenates_S8x128_S8x128_S8x128_S8x128_S8x128_S8x128_S8x128_S8x128_S8x128_S8x128_S8x128_S8x128_S8x128_S8x128_S8x128_S8x128_S128x128_d0
    rfl 8 rfl (ix2 k l) ⟨k.val / 8, by have := k.isLt; omega⟩ rfl (ix2 ⟨k.val % 8, Nat.mod_lt _ (by decide)⟩ l) rfl
    (fun b hb => match b with | ⟨0, _⟩ => absurd rfl hb | ⟨1, _⟩ => rfl)

/-- The slab of a scratch array at eight rows from row `9 * u`. -/
abbrev T (A : Scr) (u : ℕ) : Slab := fun j => atS A (9 * u + (j 0).val) (j 1).val

/-- Eight rows of the transposed stack. -/
theorem piece_eq [Facts] (A : Scr) (u : ℕ) (hu : u < 16) (h : S128x128.Slices ![8 * u, 0] S8x128) :
    extractStridedSlice S8x128 ![8 * u, 0] (transpose S128x128 [1, 0] (stack (T A 0) (T A 1) (T A 2) (T A 3) (T A 4) (T A 5) (T A 6) (T A 7) (T A 8) (T A 9) (T A 10) (T A 11) (T A 12) (T A 13) (T A 14) (T A 15)) transposes_S128x128_p1_0_S128x128 : IVec S128x128 32) h
      = slab (fun s l => tr A (8 * u + s) l) := by
  funext j
  obtain ⟨s, l, rfl⟩ : ∃ s l, j = ix2 s l := ⟨j 0, j 1, eq_ix2 j⟩
  have hk : 8 * u + s.val < 128 := by have := s.isLt; omega
  refine (slice2_axis0_apply (8 * u) _ h s l ⟨8 * u + s.val, hk⟩ rfl).trans ?_
  refine (transpose_ix2_apply _ transposes_S128x128_p1_0_S128x128 ⟨8 * u + s.val, hk⟩ l).trans ?_
  exact stack_apply (T A) l ⟨8 * u + s.val, hk⟩

/-- `mid`: the words of the first scratch array, transposed, to the second. -/
theorem wp_mid (Q : PUnit → sProp 𝕄) (m6 m7 : Memref sig .tc .vmem S144x128 .i32) (X Y : Scr) (K : PUnit → Prog (TpuEff nD τ sig (Elt F) Λ₀ .tc) PUnit) :
    iprop(owns (Val := Elt F) (c : Thread nD τ) m6 fullShare X ∗ owns (Val := Elt F) (c : Thread nD τ) m7 fullShare Y : sProp 𝕄)
      ⊢ iprop((owns (Val := Elt F) (c : Thread nD τ) m6 fullShare X ∗ owns (Val := Elt F) (c : Thread nD τ) m7 fullShare (putM Y (tr X))
          -∗ wp frame (wpE (defs₀ (F := F)) Variants.none c none) E (K ⟨⟩) Q)
        -∗ wp frame (wpE (defs₀ (F := F)) Variants.none c none) E (mid m6 m7 >>= K) Q) := by
  rw [← putS_sixteen]
  iintro ⟨H6, H7⟩ Hk
  unfold mid
  simp only [bind_assoc]
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply Hk
  isplitl [H6]
  · iexact H6
  rw [show (slab fun s l => tr X (0 + s) l) = _ from (piece_eq X 0 (by decide) slices_S128x128_o0_0_S8x128).symm,
    show (slab fun s l => tr X (8 + s) l) = _ from (piece_eq X 1 (by decide) slices_S128x128_o8_0_S8x128).symm,
    show (slab fun s l => tr X (16 + s) l) = _ from (piece_eq X 2 (by decide) slices_S128x128_o16_0_S8x128).symm,
    show (slab fun s l => tr X (24 + s) l) = _ from (piece_eq X 3 (by decide) slices_S128x128_o24_0_S8x128).symm,
    show (slab fun s l => tr X (32 + s) l) = _ from (piece_eq X 4 (by decide) slices_S128x128_o32_0_S8x128).symm,
    show (slab fun s l => tr X (40 + s) l) = _ from (piece_eq X 5 (by decide) slices_S128x128_o40_0_S8x128).symm,
    show (slab fun s l => tr X (48 + s) l) = _ from (piece_eq X 6 (by decide) slices_S128x128_o48_0_S8x128).symm,
    show (slab fun s l => tr X (56 + s) l) = _ from (piece_eq X 7 (by decide) slices_S128x128_o56_0_S8x128).symm,
    show (slab fun s l => tr X (64 + s) l) = _ from (piece_eq X 8 (by decide) slices_S128x128_o64_0_S8x128).symm,
    show (slab fun s l => tr X (72 + s) l) = _ from (piece_eq X 9 (by decide) slices_S128x128_o72_0_S8x128).symm,
    show (slab fun s l => tr X (80 + s) l) = _ from (piece_eq X 10 (by decide) slices_S128x128_o80_0_S8x128).symm,
    show (slab fun s l => tr X (88 + s) l) = _ from (piece_eq X 11 (by decide) slices_S128x128_o88_0_S8x128).symm,
    show (slab fun s l => tr X (96 + s) l) = _ from (piece_eq X 12 (by decide) slices_S128x128_o96_0_S8x128).symm,
    show (slab fun s l => tr X (104 + s) l) = _ from (piece_eq X 13 (by decide) slices_S128x128_o104_0_S8x128).symm,
    show (slab fun s l => tr X (112 + s) l) = _ from (piece_eq X 14 (by decide) slices_S128x128_o112_0_S8x128).symm,
    show (slab fun s l => tr X (120 + s) l) = _ from (piece_eq X 15 (by decide) slices_S128x128_o120_0_S8x128).symm]
  iexact H7

/-! ## The last half step -/

/-- The output block with the bytes of the words `g h s l` at rows `j + s` and columns `q + 128 * h + l`. -/
def putH (X : Out) (j q : ℕ) (g : ℕ → ℕ → ℕ → BitVec 32) : Out := fun y =>
  if (j ≤ (y 1).val ∧ (y 1).val - j < 8) ∧ (q ≤ (y 3).val ∧ (y 3).val - q < 1024) then
    byteOf (y 2).val (g (((y 3).val - q) / 128) ((y 1).val - j) (((y 3).val - q) % 128)) else X y

/-- A slab's bytes stored to the output block, at an index. -/
theorem putO_slab (X : Out) (r o : ℕ) (g : ℕ → ℕ → BitVec 32) (y : S1x16x4x18432.Idx) :
    putO X r o (slab g) y = if (r ≤ (y 1).val ∧ (y 1).val - r < 8) ∧ (o ≤ (y 3).val ∧ (y 3).val - o < 128) then
      byteOf (y 2).val (g ((y 1).val - r) ((y 3).val - o)) else X y := by
  unfold putO slab
  split_ifs <;> rfl

/-- Eight slabs stored to the output block at eight groups of 128 columns. -/
theorem putO_eight (X : Out) (j q : ℕ) (g : ℕ → ℕ → ℕ → BitVec 32) :
    putO (putO (putO (putO (putO (putO (putO (putO X j q (slab (g 0))) j (q + 128) (slab (g 1))) j (q + 256) (slab (g 2))) j (q + 384) (slab (g 3)))
      j (q + 512) (slab (g 4))) j (q + 640) (slab (g 5))) j (q + 768) (slab (g 6))) j (q + 896) (slab (g 7)) = putH X j q g := by
  funext y
  simp only [putO_slab, putH]
  generalize (y 1).val = a
  generalize (y 3).val = p
  have key : ∀ (k k' s s' l l' : ℕ), k = k' → s = s' → l = l' → byteOf (y 2).val (g k s l) = byteOf (y 2).val (g k' s' l') := by
    rintro k _ s _ l _ rfl rfl rfl; rfl
  by_cases hA : (j ≤ a ∧ a - j < 8) ∧ (q ≤ p ∧ p - q < 1024)
  · rw [if_pos hA]
    obtain ⟨⟨h1, h2⟩, h3, h4⟩ := hA
    obtain ⟨k, l, hl, hk, rfl⟩ : ∃ k l, l < 128 ∧ k < 8 ∧ p = q + 128 * k + l := ⟨(p - q) / 128, (p - q) % 128, by omega, by omega, by omega⟩
    interval_cases k
    all_goals
      repeat rw [if_neg (by omega)]
      rw [if_pos (by omega)]
      exact key _ _ _ _ _ _ (by omega) rfl (by omega)
  · rw [if_neg hA]
    by_cases hB : j ≤ a ∧ a - j < 8
    · repeat rw [if_neg (by omega)]
    · rw [if_neg (fun h => hB h.1), if_neg (fun h => hB h.1), if_neg (fun h => hB h.1), if_neg (fun h => hB h.1), if_neg (fun h => hB h.1),
        if_neg (fun h => hB h.1), if_neg (fun h => hB h.1), if_neg (fun h => hB h.1)]

/-- `halfO`: eight slabs of the second scratch array, from rows `r` to `r + 7`, transposed to the output block. -/
theorem wp_halfO (Q : PUnit → sProp 𝕄) (m7 : Memref sig .tc .vmem S144x128 .i32) (m4 : Memref sig .tc .vmem S1x16x4x18432 .i8) (h4 : m4.IsWhole) (j q r : ℕ) (hj : j ≤ 8) (hq : q ≤ 17408) (hr : r ≤ 73)
    (r0 r1 r2 r3 r4 r5 r6 r7 o0 o1 o2 o3 o4 o5 o6 o7 : ℕ) (R) (H) (Z : Scr) (X : Out) (K : PUnit → Prog (TpuEff nD τ sig (Elt F) Λ₀ .tc) PUnit) :
    iprop(owns (Val := Elt F) (c : Thread nD τ) m7 fullShare Z ∗ owns (Val := Elt F) (c : Thread nD τ) m4 fullShare X : sProp 𝕄)
      ⊢ iprop((owns (Val := Elt F) (c : Thread nD τ) m7 fullShare Z
            ∗ owns (Val := Elt F) (c : Thread nD τ) m4 fullShare (putH X j q (fun f s l => nibF f (fun g => atS Z (r + g + 9 * s) l)))
          -∗ wp frame (wpE (defs₀ (F := F)) Variants.none c none) E (K ⟨⟩) Q)
        -∗ wp frame (wpE (defs₀ (F := F)) Variants.none c none) E (halfO m7 m4 h4 j q r hj hq hr r0 r1 r2 r3 r4 r5 r6 r7 o0 o1 o2 o3 o4 o5 o6 o7 R H >>= K) Q) := by
  obtain ⟨rfl, rfl, rfl, rfl, rfl, rfl, rfl, rfl⟩ := H
  obtain ⟨rfl, rfl, rfl, rfl, rfl, rfl, rfl, rfl⟩ := R
  have hn : ∀ (a b' c' : Bool), _ = _ := fun a b' c' => nib_slab a b' c' (fun g s l => atS Z (r0 + g + 9 * s) l)
  rw [← putO_eight]
  iintro ⟨H7, H4⟩ Hk
  unfold halfO
  simp only [bind_assoc]
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply Hk
  isplitl [H7]
  · iexact H7
  rw [show (slab fun s l => nibF 0 (fun g => atS Z (r0 + g + 9 * s) l)) = _ from (hn false false false).symm,
    show (slab fun s l => nibF 1 (fun g => atS Z (r0 + g + 9 * s) l)) = _ from (hn false false true).symm,
    show (slab fun s l => nibF 2 (fun g => atS Z (r0 + g + 9 * s) l)) = _ from (hn false true false).symm,
    show (slab fun s l => nibF 3 (fun g => atS Z (r0 + g + 9 * s) l)) = _ from (hn false true true).symm,
    show (slab fun s l => nibF 4 (fun g => atS Z (r0 + g + 9 * s) l)) = _ from (hn true false false).symm,
    show (slab fun s l => nibF 5 (fun g => atS Z (r0 + g + 9 * s) l)) = _ from (hn true false true).symm,
    show (slab fun s l => nibF 6 (fun g => atS Z (r0 + g + 9 * s) l)) = _ from (hn true true false).symm,
    show (slab fun s l => nibF 7 (fun g => atS Z (r0 + g + 9 * s) l)) = _ from (hn true true true).symm]
  iexact H4

end

end Cert.Kernel.Own
-- ==== Proof.OnBits.Unit.lean ====
/-
  What a unit leaves in the output block (`wp_unitL`): its 1024 columns at their final contents, `outW`. So the body
  leaves the whole output block at `outW` of the input block, and the scales copied (`wp_body`).
-/
module

public import proofs.«01_k».proof.Proof.OnBits.Halves

@[expose] public section

set_option maxRecDepth 16384

noncomputable section

namespace Cert.Kernel.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- THE OUTPUT BLOCK as a function of the input block `W`: at row `j`, byte `b` and column `k`, byte `b` of the word whose nibble `g`
    is nibble `k % 8` of the input block's word at row `k / 8` and lane `8 * j + g`. -/
def outW (W : Blk) : Out := fun y =>
  byteOf (y 2).val (nibF ((y 3).val % 8) (fun g => atW W ((y 3).val / 8) (8 * (y 1).val + g)))

/-- An output block with the 1024 columns from column `q` at their final contents. -/
def putU (X : Out) (W : Blk) (q : ℕ) : Out := fun y =>
  if q ≤ (y 3).val ∧ (y 3).val - q < 1024 then outW W y else X y

/-! ## The contents of the scratch arrays -/

/-- A row that `putA` writes, read. -/
theorem atS_putA_in (X : Scr) (r : ℕ) (g : ℕ → ℕ → ℕ → BitVec 32) (a l : ℕ) (h : a < 144 ∧ l < 128)
    (hA : r ≤ a ∧ a - r < 72 ∧ (a - r) % 9 < 8) : atS (putA X r g) a l = g ((a - r) % 9) ((a - r) / 9) l := by
  unfold atS
  rw [dif_pos h]
  exact if_pos hA

/-- A row that it does not write. -/
theorem atS_putA_out (X : Scr) (r : ℕ) (g : ℕ → ℕ → ℕ → BitVec 32) (a l : ℕ) (h : a < 144 ∧ l < 128)
    (hA : ¬ (r ≤ a ∧ a - r < 72 ∧ (a - r) % 9 < 8)) : atS (putA X r g) a l = atS X a l := by
  unfold atS
  rw [dif_pos h, dif_pos h]
  exact if_neg hA

/-- A row that `putM` writes, read. -/
theorem atS_putM (Y : Scr) (g : ℕ → ℕ → BitVec 32) (a l : ℕ) (h : a < 144 ∧ l < 128) (hA : a % 9 < 8) :
    atS (putM Y g) a l = g (8 * (a / 9) + a % 9) l := by
  unfold atS
  rw [dif_pos h]
  exact if_pos hA

/-- What the two first half steps of a unit write. -/
abbrev gA (W : Blk) (b f s l : ℕ) : BitVec 32 := nibF f (fun h => atW W (b + 16 * h + s) l)

/-- The first scratch array after both first half steps: row `9 * u + f`, lane `l`. -/
theorem scr1 (W : Blk) (X : Scr) (b u f l : ℕ) (hu : u < 16) (hf : f < 8) (hl : l < 128) :
    atS (putA (putA X 0 (gA W b)) 72 (gA W (b + 8))) (9 * u + f) l = nibF f (fun h => atW W (b + 16 * h + u) l) := by
  by_cases h : u < 8
  · rw [atS_putA_out _ _ _ _ _ (by omega) (by omega), atS_putA_in _ _ _ _ _ (by omega) (by omega)]
    rw [show (9 * u + f - 0) % 9 = f by omega, show (9 * u + f - 0) / 9 = u by omega]
  · rw [atS_putA_in _ _ _ _ _ (by omega) (by omega)]
    rw [show (9 * u + f - 72) % 9 = f by omega, show (9 * u + f - 72) / 9 = u - 8 by omega]
    refine nibF_congr _ (fun k _ => ?_)
    rw [show b + 8 + 16 * k + (u - 8) = b + 16 * k + u by omega]

/-- The second scratch array after the middle step: row `9 * s + g`, lane `l`. -/
theorem scr2 (W : Blk) (X Y : Scr) (b s g l : ℕ) (hs : s < 16) (hg : g < 8) (hl : l < 128) :
    atS (putM Y (tr (putA (putA X 0 (gA W b)) 72 (gA W (b + 8))))) (9 * s + g) l
      = nibF (l % 8) (fun h => atW W (b + 16 * h + l / 8) (8 * s + g)) := by
  rw [atS_putM _ _ _ _ (by omega) (by omega), show (9 * s + g) / 9 = s by omega, show (9 * s + g) % 9 = g by omega]
  unfold tr
  exact scr1 W X b (l / 8) (l % 8) (8 * s + g) (by omega) (by omega) (by omega)

/-- What the last half steps write is the final contents. -/
theorem word_eq (W : Blk) (X Y : Scr) (b s t : ℕ) (hs : s < 16) (ht : t < 1024) (v : ℕ → ℕ)
    (hv : ∀ g, v g = 9 * s + g) :
    nibF (t / 128) (fun g => atS (putM Y (tr (putA (putA X 0 (gA W b)) 72 (gA W (b + 8))))) (v g) (t % 128))
      = nibF ((8 * b + t) % 8) (fun g => atW W ((8 * b + t) / 8) (8 * s + g)) := by
  rw [nibF_congr (t / 128) (g' := fun g => nibF (t % 128 % 8) (fun h => atW W (b + 16 * h + t % 128 / 8) (8 * s + g))) (fun g hg => by
    rw [hv, scr2 W X Y b s g (t % 128) hs hg (by omega)])]
  rw [nibF_nibF (t % 128 % 8) (t / 128) (by omega) (fun h g => atW W (b + 16 * h + t % 128 / 8) (8 * s + g))]
  rw [show t % 128 % 8 = (8 * b + t) % 8 by omega, show b + 16 * (t / 128) + t % 128 / 8 = (8 * b + t) / 8 by omega]

/-- The output block after both last half steps. -/
theorem out_eq (W : Blk) (X Y : Scr) (O : Out) (b : ℕ) (Z : Scr) (hZ : Z = putM Y (tr (putA (putA X 0 (gA W b)) 72 (gA W (b + 8))))) :
    putH (putH O 0 (8 * b) (fun f s l => nibF f (fun g => atS Z (0 + g + 9 * s) l))) 8 (8 * b) (fun f s l => nibF f (fun g => atS Z (72 + g + 9 * s) l))
      = putU O W (8 * b) := by
  subst hZ
  funext y
  unfold putH putU outW
  have h1 : (y 1).val < 16 := (y 1).isLt
  dsimp only
  generalize (y 1).val = s at h1 ⊢
  generalize (y 3).val = p
  by_cases hp : 8 * b ≤ p ∧ p - 8 * b < 1024
  · obtain ⟨t, ht, rfl⟩ : ∃ t, t < 1024 ∧ p = 8 * b + t := ⟨p - 8 * b, hp.2, by omega⟩
    rw [if_pos hp, show 8 * b + t - 8 * b = t by omega]
    by_cases hs : 8 ≤ s
    · rw [if_pos (by omega)]
      exact congrArg (byteOf _) (word_eq W X Y b s t h1 ht _ (fun g => by omega))
    · rw [if_neg (by omega), if_pos (by omega)]
      exact congrArg (byteOf _) (word_eq W X Y b s t h1 ht _ (fun g => by omega))
  · rw [if_neg hp, if_neg (fun h => hp h.2), if_neg (fun h => hp h.2)]

/-- The 18 groups of 1024 columns are the whole block. -/
theorem putU_all (X : Out) (W : Blk) :
    (putU (putU (putU (putU (putU (putU (putU (putU (putU (putU (putU (putU (putU (putU (putU (putU (putU (putU X W 0) W 1024) W 2048) W 3072) W 4096) W 5120) W 6144) W 7168) W 8192) W 9216) W 10240) W 11264) W 12288) W 13312) W 14336) W 15360) W 16384) W 17408)
      = outW W := by
  funext y
  unfold putU
  have h3 : (y 3).val < 18432 := (y 3).isLt
  generalize (y 3).val = p at h3 ⊢
  obtain ⟨k, t, ht, hk, rfl⟩ : ∃ k t, t < 1024 ∧ k < 18 ∧ p = 1024 * k + t := ⟨p / 1024, p % 1024, by omega, by omega, by omega⟩
  interval_cases k
  all_goals
    repeat rw [if_neg (by omega)]
    rw [if_pos (by omega)]

/-! ## The unit and the body -/

section
variable [Facts] (c : Dev nD) (E : Set ℕ)

/-- `unitL`: 1024 columns of the output block at their final contents, the scratch arrays at some contents. -/
theorem wp_unitL (Q : PUnit → sProp 𝕄) (m2 : Memref sig .tc .vmem S1x2304x128 .i32) (m4 : Memref sig .tc .vmem S1x16x4x18432 .i8) (h4 : m4.IsWhole) (m6 m7 : Memref sig .tc .vmem S144x128 .i32)
    (b p q : ℕ) (hb : b ≤ 2176) (hp : p ≤ 2184) (hq : q ≤ 17408) (o0 o1 o2 o3 o4 o5 o6 o7 p0 p1 p2 p3 p4 p5 p6 p7 q0 q1 q2 q3 q4 q5 q6 q7 : ℕ)
    (H) (P) (L) (epb : p = b + 8) (eqb : q = 8 * b) (W : Blk) (O : Out) (X Y : Scr) (K : PUnit → Prog (TpuEff nD τ sig (Elt F) Λ₀ .tc) PUnit) :
    iprop(owns (Val := Elt F) (c : Thread nD τ) m2 fullShare W ∗ owns (Val := Elt F) (c : Thread nD τ) m4 fullShare O
        ∗ owns (Val := Elt F) (c : Thread nD τ) m6 fullShare X ∗ owns (Val := Elt F) (c : Thread nD τ) m7 fullShare Y : sProp 𝕄)
      ⊢ iprop((owns (Val := Elt F) (c : Thread nD τ) m2 fullShare W ∗ owns (Val := Elt F) (c : Thread nD τ) m4 fullShare (putU O W q)
            ∗ (∃ d : Scr, owns (Val := Elt F) (c : Thread nD τ) m6 fullShare d) ∗ (∃ d : Scr, owns (Val := Elt F) (c : Thread nD τ) m7 fullShare d)
          -∗ wp frame (wpE (defs₀ (F := F)) Variants.none c none) E (K ⟨⟩) Q)
        -∗ wp frame (wpE (defs₀ (F := F)) Variants.none c none) E
          (unitL m2 m4 h4 m6 m7 b p q hb hp hq o0 o1 o2 o3 o4 o5 o6 o7 p0 p1 p2 p3 p4 p5 p6 p7 q0 q1 q2 q3 q4 q5 q6 q7 H P L >>= K) Q) := by
  subst epb eqb
  rw [← out_eq W X Y O b _ rfl]
  iintro ⟨H2, H4, H6, H7⟩ Hk
  unfold unitL
  simp only [bind_assoc]
  iapply (wp_halfA c E Q m2 m6 b 0 _ _ _ _ _ _ _ _ _ _ _ _ _ _ _ _ _ _ _ _ W X _) $$ [H2 H6]
  · isplitl [H2]; · iexact H2
    iexact H6
  iintro ⟨H2, H6⟩
  iapply (wp_halfA c E Q m2 m6 (b + 8) 72 _ _ _ _ _ _ _ _ _ _ _ _ _ _ _ _ _ _ _ _ W _ _) $$ [H2 H6]
  · isplitl [H2]; · iexact H2
    iexact H6
  iintro ⟨H2, H6⟩
  iapply (wp_mid c E Q m6 m7 _ Y _) $$ [H6 H7]
  · isplitl [H6]; · iexact H6
    iexact H7
  iintro ⟨H6, H7⟩
  iapply (wp_halfO c E Q m7 m4 h4 0 (8 * b) 0 _ _ _ _ _ _ _ _ _ _ _ _ _ _ _ _ _ _ _ _ _ _ O _) $$ [H7 H4]
  · isplitl [H7]; · iexact H7
    iexact H4
  iintro ⟨H7, H4⟩
  iapply (wp_halfO c E Q m7 m4 h4 8 (8 * b) 72 _ _ _ _ _ _ _ _ _ _ _ _ _ _ _ _ _ _ _ _ _ _ _ _) $$ [H7 H4]
  · isplitl [H7]; · iexact H7
    iexact H4
  iintro ⟨H7, H4⟩
  iapply Hk
  isplitl [H2]; · iexact H2
  isplitl [H4]; · iexact H4
  isplitl [H6]; · iexists _; iexact H6
  iexists _; iexact H7

/-- The body: the output block at `outW` of the input block, the output scales a copy of the input's. -/
theorem wp_body (K : PUnit → sProp 𝕄) (i : grid0.Coords) (m2 : Memref sig .tc .vmem S1x2304x128 .i32) (h2 : m2.IsWhole) (m3 : Memref sig .tc .vmem S1x144x128 .f32) (h3 : m3.IsWhole)
    (m4 : Memref sig .tc .vmem S1x16x4x18432 .i8) (h4 : m4.IsWhole) (m5 : Memref sig .tc .vmem S1x144x128 .f32) (h5 : m5.IsWhole)
    (m6 : Memref sig .tc .vmem S144x128 .i32) (h6 : m6.IsWhole) (m7 : Memref sig .tc .vmem S144x128 .i32) (h7 : m7.IsWhole)
    (W : Blk) (x1 : Vec F S1x144x128 .f32) :
    iprop(owns (Val := Elt F) (c : Thread nD τ) m2 fullShare W ∗ owns (Val := Elt F) (c : Thread nD τ) m3 fullShare x1
        ∗ (∃ d : Out, owns (Val := Elt F) (c : Thread nD τ) m4 fullShare d) ∗ (∃ d, owns (Val := Elt F) (c : Thread nD τ) m5 fullShare d)
        ∗ (∃ d : Scr, owns (Val := Elt F) (c : Thread nD τ) m6 fullShare d) ∗ (∃ d : Scr, owns (Val := Elt F) (c : Thread nD τ) m7 fullShare d)
        ∗ (iprop(owns (Val := Elt F) (c : Thread nD τ) m2 fullShare W ∗ owns (Val := Elt F) (c : Thread nD τ) m3 fullShare x1
          ∗ owns (Val := Elt F) (c : Thread nD τ) m4 fullShare (outW W) ∗ owns (Val := Elt F) (c : Thread nD τ) m5 fullShare x1
          ∗ (∃ d : Scr, owns (Val := Elt F) (c : Thread nD τ) m6 fullShare d) ∗ (∃ d : Scr, owns (Val := Elt F) (c : Thread nD τ) m7 fullShare d)) -∗ K ⟨⟩) : sProp 𝕄)
      ⊢ wp frame (wpE (defs₀ (F := F)) Variants.none c none) E (body i m2 h2 m3 h3 m4 h4 m5 h5 m6 h6 m7 h7) K := by
  iintro ⟨H2, H3, ⟨%X, H4⟩, ⟨%d5, H5⟩, ⟨%d6, H6⟩, ⟨%d7, H7⟩, Hk⟩
  unfold body
  have hidx : ∀ j : S1x144x128.Idx, (Rect.unit (s := S1x144x128) ![0, 0, 0] S1x144x128.size inb_S1x144x128_S1x144x128_0_0_0).toLoadRect.idx j = j := by
    intro j
    funext a
    match a with
    | ⟨0, _⟩ => exact Fin.ext (by show 0 + 1 * (j 0).val = (j 0).val; omega)
    | ⟨1, _⟩ => exact Fin.ext (by show 0 + 1 * (j 1).val = (j 1).val; omega)
    | ⟨2, _⟩ => exact Fin.ext (by show 0 + 1 * (j 2).val = (j 2).val; omega)
  iapply (owns_load c E K m3 _ (View.loadsAt_vmem h_S1x144x128) x1 _) $$ H3
  iintro H3
  iapply (owns_load c E K m5 _ (View.loadsAt_vmem h_S1x144x128) d5 _) $$ H5
  iintro H5
  iapply (owns_store c E K m5 (Rect.unit (s := S1x144x128) ![0, 0, 0] S1x144x128.size inb_S1x144x128_S1x144x128_0_0_0) _ _ _ d5 x1 (fun j => rfl) (fun y hy => absurd (hidx y) (hy y)) _) $$ H5
  iintro H5
  iapply (wp_unitL c E K m2 m4 h4 m6 m7 0 8 0 (Nat.le_of_ble_eq_true rfl) (Nat.le_of_ble_eq_true rfl) (Nat.le_of_ble_eq_true rfl) 0 16 32 48 64 80 96 112 8 24 40 56 72 88 104 120 0 128 256 384 512 640 768 896 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 128 136 1024 (Nat.le_of_ble_eq_true rfl) (Nat.le_of_ble_eq_true rfl) (Nat.le_of_ble_eq_true rfl) 128 144 160 176 192 208 224 240 136 152 168 184 200 216 232 248 1024 1152 1280 1408 1536 1664 1792 1920 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 256 264 2048 (Nat.le_of_ble_eq_true rfl) (Nat.le_of_ble_eq_true rfl) (Nat.le_of_ble_eq_true rfl) 256 272 288 304 320 336 352 368 264 280 296 312 328 344 360 376 2048 2176 2304 2432 2560 2688 2816 2944 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 384 392 3072 (Nat.le_of_ble_eq_true rfl) (Nat.le_of_ble_eq_true rfl) (Nat.le_of_ble_eq_true rfl) 384 400 416 432 448 464 480 496 392 408 424 440 456 472 488 504 3072 3200 3328 3456 3584 3712 3840 3968 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 512 520 4096 (Nat.le_of_ble_eq_true rfl) (Nat.le_of_ble_eq_true rfl) (Nat.le_of_ble_eq_true rfl) 512 528 544 560 576 592 608 624 520 536 552 568 584 600 616 632 4096 4224 4352 4480 4608 4736 4864 4992 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 640 648 5120 (Nat.le_of_ble_eq_true rfl) (Nat.le_of_ble_eq_true rfl) (Nat.le_of_ble_eq_true rfl) 640 656 672 688 704 720 736 752 648 664 680 696 712 728 744 760 5120 5248 5376 5504 5632 5760 5888 6016 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 768 776 6144 (Nat.le_of_ble_eq_true rfl) (Nat.le_of_ble_eq_true rfl) (Nat.le_of_ble_eq_true rfl) 768 784 800 816 832 848 864 880 776 792 808 824 840 856 872 888 6144 6272 6400 6528 6656 6784 6912 7040 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 896 904 7168 (Nat.le_of_ble_eq_true rfl) (Nat.le_of_ble_eq_true rfl) (Nat.le_of_ble_eq_true rfl) 896 912 928 944 960 976 992 1008 904 920 936 952 968 984 1000 1016 7168 7296 7424 7552 7680 7808 7936 8064 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1024 1032 8192 (Nat.le_of_ble_eq_true rfl) (Nat.le_of_ble_eq_true rfl) (Nat.le_of_ble_eq_true rfl) 1024 1040 1056 1072 1088 1104 1120 1136 1032 1048 1064 1080 1096 1112 1128 1144 8192 8320 8448 8576 8704 8832 8960 9088 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1152 1160 9216 (Nat.le_of_ble_eq_true rfl) (Nat.le_of_ble_eq_true rfl) (Nat.le_of_ble_eq_true rfl) 1152 1168 1184 1200 1216 1232 1248 1264 1160 1176 1192 1208 1224 1240 1256 1272 9216 9344 9472 9600 9728 9856 9984 10112 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1280 1288 10240 (Nat.le_of_ble_eq_true rfl) (Nat.le_of_ble_eq_true rfl) (Nat.le_of_ble_eq_true rfl) 1280 1296 1312 1328 1344 1360 1376 1392 1288 1304 1320 1336 1352 1368 1384 1400 10240 10368 10496 10624 10752 10880 11008 11136 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1408 1416 11264 (Nat.le_of_ble_eq_true rfl) (Nat.le_of_ble_eq_true rfl) (Nat.le_of_ble_eq_true rfl) 1408 1424 1440 1456 1472 1488 1504 1520 1416 1432 1448 1464 1480 1496 1512 1528 11264 11392 11520 11648 11776 11904 12032 12160 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1536 1544 12288 (Nat.le_of_ble_eq_true rfl) (Nat.le_of_ble_eq_true rfl) (Nat.le_of_ble_eq_true rfl) 1536 1552 1568 1584 1600 1616 1632 1648 1544 1560 1576 1592 1608 1624 1640 1656 12288 12416 12544 12672 12800 12928 13056 13184 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1664 1672 13312 (Nat.le_of_ble_eq_true rfl) (Nat.le_of_ble_eq_true rfl) (Nat.le_of_ble_eq_true rfl) 1664 1680 1696 1712 1728 1744 1760 1776 1672 1688 1704 1720 1736 1752 1768 1784 13312 13440 13568 13696 13824 13952 14080 14208 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1792 1800 14336 (Nat.le_of_ble_eq_true rfl) (Nat.le_of_ble_eq_true rfl) (Nat.le_of_ble_eq_true rfl) 1792 1808 1824 1840 1856 1872 1888 1904 1800 1816 1832 1848 1864 1880 1896 1912 14336 14464 14592 14720 14848 14976 15104 15232 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1920 1928 15360 (Nat.le_of_ble_eq_true rfl) (Nat.le_of_ble_eq_true rfl) (Nat.le_of_ble_eq_true rfl) 1920 1936 1952 1968 1984 2000 2016 2032 1928 1944 1960 1976 1992 2008 2024 2040 15360 15488 15616 15744 15872 16000 16128 16256 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 2048 2056 16384 (Nat.le_of_ble_eq_true rfl) (Nat.le_of_ble_eq_true rfl) (Nat.le_of_ble_eq_true rfl) 2048 2064 2080 2096 2112 2128 2144 2160 2056 2072 2088 2104 2120 2136 2152 2168 16384 16512 16640 16768 16896 17024 17152 17280 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 2176 2184 17408 (Nat.le_of_ble_eq_true rfl) (Nat.le_of_ble_eq_true rfl) (Nat.le_of_ble_eq_true rfl) 2176 2192 2208 2224 2240 2256 2272 2288 2184 2200 2216 2232 2248 2264 2280 2296 17408 17536 17664 17792 17920 18048 18176 18304 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  sl_step
  iapply Hk
  isplitl [H2]; · iexact H2
  isplitl [H3]; · iexact H3
  isplitl [H4]
  · rw [← putU_all X W]; iexact H4
  isplitl [H5]; · iexact H5
  isplitl [H6]; · iexists _; iexact H6
  iexists _; iexact H7

end

end Cert.Kernel.Own
-- ==== Proof.OnBits.Run.lean ====
/-
  The run of the whole program: what every staging buffer holds after each grid point (`dats`), the body at a point
  (`sound_body`, from `wp_body`), the run of the pipeline (`run_main_quiescent`) and the frame.
-/
module

public import proofs.«01_k».proof.Proof.OnBits.Unit
public import Idealize.ShloMosaic.Lib.Claim

@[expose] public section

set_option maxRecDepth 16384

noncomputable section

namespace Cert.Kernel.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Bits) ℕ (UR sig nD τ) ℕ

variable (m : (ℓ : Loc nD τ sig) → Buf (Elt Bits) ℓ) (ρ : Dev nD → PrngReg)

/-- What the body leaves in the output block at a point. -/
def out2 (c : Dev nD) (t : Fin cfg0.N) : Vec Bits S1x16x4x18432 .i8 := outW (iblk m c 0 t)
/-- What the body leaves in the block of the scales at a point: the scales it was given. -/
def out3 (c : Dev nD) (t : Fin cfg0.N) : Vec Bits S1x144x128 .f32 := iblk m c 1 t

/-- The printed body at a point is `body` there. -/
theorem at_eq (t : Fin cfg0.N) : bodyAt0 (F := Bits) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) :=
  printed_eq _ _ _ _ _ _ _ _ _ _ _ _ _

def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 m c t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 m c t := by dsimp only [dats]
theorem after0_3 (c : Dev nD) (t : Fin cfg0.N) : (dats m 0 c).after 3 t = out3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := Bits)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold out2 out3
  rw [at_eq]
  iintro ⟨⟨⟨HS0, HS1⟩, Hg⟩, Ho, ⟨%d0, H0⟩, ⟨%d1, H1⟩, ⟨%d2, H2⟩, ⟨%d3, H3⟩⟩
  iapply (wp_body (F := Bits) c Set.univ _ (grid0.coords t) _ _ _ _ _ _ _ _ _ _ _ _ (iblk m c 0 t) (iblk m c 1 t))
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem defs₀_row (t : Fin cfg0.N) :
    defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
theorem run_main_quiescent : θ_run defs (onTc (τ := τ) (main (F := Bits))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Bits))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Own

end
-- ==== Proof.Nib.lean ====
/-
  The kernel's nibble transpose as one function of eight slabs of words: what its three levels of
  packing (16, 8 and 4 bits) compute, with no program around it.
-/
module

public import proofs.«01_k».proof.Proof.Gen.KernelIdeal

@[expose] public section

noncomputable section

namespace Cert.KernelIdeal.Own

open Idealize.ShloMosaic

/-- A slab: eight rows of 128 words. -/
abbrev Slab := IVec S8x128 32

/-- Every word of a slab shifted right by `k` bits. -/
def shr (k : BitVec 32) (u : Slab) : Slab := shrui u (broadcast S8x128 k)

/-- Two slabs interleaved: the bits that `mask` selects from `u`, and those it selects from `v`
    moved up by `k`. -/
def pkm (mask k : BitVec 32) (u v : Slab) : Slab :=
  ori (andi u (broadcast S8x128 mask)) (shli (andi v (broadcast S8x128 mask)) (broadcast S8x128 k))

/-- The 16-bit level: the low (`hi = false`) or high halves of two slabs, packed. -/
def lvl16 (hi : Bool) (u v : Slab) : Slab :=
  match hi with
  | false => packElementwiseI16 u v
  | true => packElementwiseI16 (shr 16#32 u) (shr 16#32 v)

/-- The 8-bit level: the low or high bytes of every half word of two slabs, packed. -/
def lvl8 (hi : Bool) (u v : Slab) : Slab :=
  match hi with
  | false => pkm 16711935#32 8#32 u v
  | true => pkm 16711935#32 8#32 (shr 8#32 u) (shr 8#32 v)

/-- The 4-bit level: the low or high nibbles of every byte of two slabs, packed. -/
def lvl4 (hi : Bool) (u v : Slab) : Slab :=
  match hi with
  | false => pkm 252645135#32 4#32 u v
  | true => pkm 252645135#32 4#32 (shr 4#32 u) (shr 4#32 v)

/-- Output slab `4 * a + 2 * b + c` of the nibble transpose. -/
def nib (a b c : Bool) (x0 x1 x2 x3 x4 x5 x6 x7 : Slab) : Slab :=
  lvl4 c (lvl8 b (lvl16 a x0 x4) (lvl16 a x2 x6)) (lvl8 b (lvl16 a x1 x5) (lvl16 a x3 x7))

end Cert.KernelIdeal.Own
-- ==== Proof.Units.lean ====
/-
  The kernel's body written as one function used 18 times. `unitL` is what the body does for 128 rows
  of the input block; its offsets are its arguments. `body_eq` says that the printed body is the copy of
  the scales followed by the 18 uses.
-/
module

public import proofs.«01_k».proof.Proof.Nib
public import proofs.«01_k».proof.Proof.Gen.KernelIdeal.Launch
public import Idealize.ShloMosaic.PureOps.Ideal
public import Idealize.ShloMosaic.Lib.Tactic.ProgEq

@[expose] public section

set_option maxRecDepth 16384

noncomputable section

namespace Cert.KernelIdeal.Own

open Idealize.ShloMosaic Idealize.ShloMosaic.TcCoe Idealize.SL.Sem
open Facts₀ Facts

variable {F : FTy → Type} [FloatOps F]

/-- The input block, eight rows from row `o`. -/
theorem inbW {o : ℕ} (h : o ≤ 2296) : ∀ a, (![0, o, 0] : Fin 3 → ℕ) a + S1x8x128.size a ≤ S1x2304x128.size a := by
  intro a; fin_cases a
  · exact Nat.le_refl 1
  · show o + 8 ≤ 2304; omega
  · exact Nat.le_refl 128

/-- A scratch array, eight rows from row `o`. -/
theorem inbS {o : ℕ} (h : o ≤ 136) : ∀ a, (![o, 0] : Fin 2 → ℕ) a + S8x128.size a ≤ S144x128.size a := by
  intro a; fin_cases a
  · show o + 8 ≤ 144; omega
  · exact Nat.le_refl 128

/-- A scratch array, every ninth row from row `o`, eight of them. -/
theorem inbT {o : ℕ} (h : o ≤ 80) : ∀ a, S8x128.size a = 0 ∨ (![o, 0] : Fin 2 → ℕ) a + ((![9, 1] : Fin 2 → ℕ) a) * (S8x128.size a - 1) < S144x128.size a := by
  intro a; fin_cases a
  · exact .inr (show o + 9 * 7 < 144 by omega)
  · exact .inr (show 0 + 1 * 127 < 128 by omega)

/-- The output block, rows `r` to `r + 7`, all four bytes, 128 columns from column `o`. -/
theorem inbO {r o : ℕ} (hr : r ≤ 8) (h : o ≤ 18304) :
    ∀ a, (![0, r, 0, o] : Fin 4 → ℕ) a + S1x8x4x128.size a ≤ S1x16x4x18432.size a := by
  intro a; fin_cases a
  · exact Nat.le_refl 1
  · show r + 8 ≤ 16; omega
  · exact Nat.le_refl 4
  · show o + 128 ≤ 18432; omega

/-- A store there writes whole words. -/
theorem packedO {r o : ℕ} (hr : r ≤ 8) (h : o ≤ 18304) :
    (Rect.unit (s := S1x16x4x18432) ![0, r, 0, o] S1x8x4x128.size (inbO hr h)).PackedRows (EltTy.packing .i8) :=
  .inr ⟨by decide, rfl, .inl ⟨⟨0, rfl⟩, ⟨1, rfl⟩⟩⟩

/-- Load eight rows of the input block from row `o`. -/
def ldW [Facts] (arg2 : Memref sig .tc .vmem S1x2304x128 .i32) (o : ℕ) (h : o ≤ 2296) : Prog (TpuEff nD τ sig (Elt F) Λ₀ .tc) Slab := do
  let v : Vec F S1x8x128 .i32 ← Prog.lift (.load arg2 (Rect.unit (s := S1x2304x128) ![0, o, 0] S1x8x128.size (inbW h)).toLoadRect (View.loadsAt_vmem h_S1x8x128))
  pure (shapeCast S8x128 v shapeCasts_S1x8x128_S8x128)

/-- Load eight rows of a scratch array from row `o`. -/
def ldS [Facts] (arg : Memref sig .tc .vmem S144x128 .i32) (o : ℕ) (h : o ≤ 136) : Prog (TpuEff nD τ sig (Elt F) Λ₀ .tc) Slab := do
  let v : Vec F S8x128 .i32 ← Prog.lift (.load arg (Rect.unit (s := S144x128) ![o, 0] S8x128.size (inbS h)).toLoadRect (View.loadsAt_vmem h_S8x128))
  pure v

/-- Load every ninth row of a scratch array from row `o`, eight of them. -/
def ldT [Facts] (arg : Memref sig .tc .vmem S144x128 .i32) (o : ℕ) (h : o ≤ 80) : Prog (TpuEff nD τ sig (Elt F) Λ₀ .tc) Slab := do
  let v : Vec F S8x128 .i32 ← Prog.lift (.load arg (⟨![o, 0], S8x128.size, ![9, 1], inbT h⟩ : LoadRect S144x128) (View.loadsAt_vmem h_S8x128))
  pure v

/-- Store a slab to eight rows of a scratch array from row `o` (after a load whose value is not used). -/
def stS [Facts] (arg : Memref sig .tc .vmem S144x128 .i32) (o : ℕ) (h : o ≤ 136) (w : Slab) : Prog (TpuEff nD τ sig (Elt F) Λ₀ .tc) PUnit := do
  let _v : Vec F S8x128 .i32 ← Prog.lift (.load arg (Rect.unit (s := S144x128) ![o, 0] S8x128.size (inbS h)).toLoadRect (View.loadsAt_vmem h_S8x128))
  Prog.lift (.store arg (Rect.unit (s := S144x128) ![o, 0] S8x128.size (inbS h)) (shapeCast S8x128 w shapeCasts_S8x128_S8x128 : IVec S8x128 32) Finset.univ (View.stores_vmem_bits_univ h_S8x128 rfl) (.inl rfl))

/-- Store a slab to every ninth row of a scratch array from row `o` (after a load whose value is not used). -/
def stT [Facts] (arg : Memref sig .tc .vmem S144x128 .i32) (o : ℕ) (h : o ≤ 80) (w : Slab) : Prog (TpuEff nD τ sig (Elt F) Λ₀ .tc) PUnit := do
  let _v : Vec F S8x128 .i32 ← Prog.lift (.load arg (⟨![o, 0], S8x128.size, ![9, 1], inbT h⟩ : LoadRect S144x128) (View.loadsAt_vmem h_S8x128))
  Prog.lift (.store arg ⟨(⟨![o, 0], S8x128.size, ![9, 1], inbT h⟩ : LoadRect S144x128), spos_9_1⟩ (shapeCast S8x128 w shapeCasts_S8x128_S8x128 : IVec S8x128 32) Finset.univ (View.stores_vmem_bits_univ h_S8x128 rfl) (.inl rfl))

/-- The bytes of a slab as the output block holds them. -/
def bytesOf [Facts] (w : Slab) : IVec S1x8x4x128 8 :=
  shapeCast S1x8x4x128 (shapeCast S8x4x128 (bitcast S32x128 8 w bitcasts_S8x128_w32_S32x128_w8 : IVec S32x128 8) shapeCasts_S32x128_S8x4x128 : IVec S8x4x128 8) shapeCasts_S8x4x128_S1x8x4x128

/-- Store a slab's bytes to the output block at row `r` and column `o` (after a load whose value is not used). -/
def stO [Facts] (arg4 : Memref sig .tc .vmem S1x16x4x18432 .i8) (harg4 : arg4.IsWhole) (r o : ℕ) (hr : r ≤ 8) (h : o ≤ 18304)
    (w : Slab) : Prog (TpuEff nD τ sig (Elt F) Λ₀ .tc) PUnit := do
  let _v : Vec F S1x8x4x128 .i8 ← Prog.lift (.load arg4 (Rect.unit (s := S1x16x4x18432) ![0, r, 0, o] S1x8x4x128.size (inbO hr h)).toLoadRect (View.loadsAt_vmem h_S1x8x4x128))
  Prog.lift (.store arg4 (Rect.unit (s := S1x16x4x18432) ![0, r, 0, o] S1x8x4x128.size (inbO hr h)) (bytesOf w) Finset.univ (View.stores_vmem h_S1x8x4x128 (harg4.storeExact_slice rfl _ (packedO hr h)) (fun _ => rfl)) (.inl rfl))

/-- First half step: eight slabs of the input block, their nibble transpose to the first scratch array. -/
def halfA [Facts] (arg2 : Memref sig .tc .vmem S1x2304x128 .i32) (arg6 : Memref sig .tc .vmem S144x128 .i32) (b r : ℕ) (hb : b ≤ 2184) (hr : r ≤ 73)
    (o0 o1 o2 o3 o4 o5 o6 o7 r0 r1 r2 r3 r4 r5 r6 r7 : ℕ) (H : o0 = b ∧ o1 = b + 16 ∧ o2 = b + 32 ∧ o3 = b + 48 ∧ o4 = b + 64 ∧ o5 = b + 80 ∧ o6 = b + 96 ∧ o7 = b + 112)
    (R : r0 = r ∧ r1 = r + 1 ∧ r2 = r + 2 ∧ r3 = r + 3 ∧ r4 = r + 4 ∧ r5 = r + 5 ∧ r6 = r + 6 ∧ r7 = r + 7) : Prog (TpuEff nD τ sig (Elt F) Λ₀ .tc) PUnit := do
  let x0 : Slab ← ldW arg2 o0 (by rw [H.1]; omega)
  let x1 : Slab ← ldW arg2 o1 (by rw [H.2.1]; omega)
  let x2 : Slab ← ldW arg2 o2 (by rw [H.2.2.1]; omega)
  let x3 : Slab ← ldW arg2 o3 (by rw [H.2.2.2.1]; omega)
  let x4 : Slab ← ldW arg2 o4 (by rw [H.2.2.2.2.1]; omega)
  let x5 : Slab ← ldW arg2 o5 (by rw [H.2.2.2.2.2.1]; omega)
  let x6 : Slab ← ldW arg2 o6 (by rw [H.2.2.2.2.2.2.1]; omega)
  let x7 : Slab ← ldW arg2 o7 (by rw [H.2.2.2.2.2.2.2]; omega)
  stT arg6 r0 (by rw [R.1]; omega) (nib false false false x0 x1 x2 x3 x4 x5 x6 x7)
  stT arg6 r1 (by rw [R.2.1]; omega) (nib false false true x0 x1 x2 x3 x4 x5 x6 x7)
  stT arg6 r2 (by rw [R.2.2.1]; omega) (nib false true false x0 x1 x2 x3 x4 x5 x6 x7)
  stT arg6 r3 (by rw [R.2.2.2.1]; omega) (nib false true true x0 x1 x2 x3 x4 x5 x6 x7)
  stT arg6 r4 (by rw [R.2.2.2.2.1]; omega) (nib true false false x0 x1 x2 x3 x4 x5 x6 x7)
  stT arg6 r5 (by rw [R.2.2.2.2.2.1]; omega) (nib true false true x0 x1 x2 x3 x4 x5 x6 x7)
  stT arg6 r6 (by rw [R.2.2.2.2.2.2.1]; omega) (nib true true false x0 x1 x2 x3 x4 x5 x6 x7)
  stT arg6 r7 (by rw [R.2.2.2.2.2.2.2]; omega) (nib true true true x0 x1 x2 x3 x4 x5 x6 x7)

/-- The sixteen groups of rows of the first scratch array, stacked. -/
def stack [Facts] (t0 t1 t2 t3 t4 t5 t6 t7 t8 t9 t10 t11 t12 t13 t14 t15 : Slab) : IVec S128x128 32 :=
  concatenate S128x128 0 [⟨S8x128, t0⟩, ⟨S8x128, t1⟩, ⟨S8x128, t2⟩, ⟨S8x128, t3⟩, ⟨S8x128, t4⟩, ⟨S8x128, t5⟩, ⟨S8x128, t6⟩, ⟨S8x128, t7⟩, ⟨S8x128, t8⟩, ⟨S8x128, t9⟩, ⟨S8x128, t10⟩, ⟨S8x128, t11⟩, ⟨S8x128, t12⟩, ⟨S8x128, t13⟩, ⟨S8x128, t14⟩, ⟨S8x128, t15⟩] concatenates_S8x128_S8x128_S8x128_S8x128_S8x128_S8x128_S8x128_S8x128_S8x128_S8x128_S8x128_S8x128_S8x128_S8x128_S8x128_S8x128_S128x128_d0

/-- Middle step: the first scratch array, transposed, to the second. -/
def mid [Facts] (arg6 arg7 : Memref sig .tc .vmem S144x128 .i32) : Prog (TpuEff nD τ sig (Elt F) Λ₀ .tc) PUnit := do
  let t0 : Slab ← ldS arg6 0 (by decide)
  let t1 : Slab ← ldS arg6 9 (by decide)
  let t2 : Slab ← ldS arg6 18 (by decide)
  let t3 : Slab ← ldS arg6 27 (by decide)
  let t4 : Slab ← ldS arg6 36 (by decide)
  let t5 : Slab ← ldS arg6 45 (by decide)
  let t6 : Slab ← ldS arg6 54 (by decide)
  let t7 : Slab ← ldS arg6 63 (by decide)
  let t8 : Slab ← ldS arg6 72 (by decide)
  let t9 : Slab ← ldS arg6 81 (by decide)
  let t10 : Slab ← ldS arg6 90 (by decide)
  let t11 : Slab ← ldS arg6 99 (by decide)
  let t12 : Slab ← ldS arg6 108 (by decide)
  let t13 : Slab ← ldS arg6 117 (by decide)
  let t14 : Slab ← ldS arg6 126 (by decide)
  let t15 : Slab ← ldS arg6 135 (by decide)
  let t : IVec S128x128 32 := transpose S128x128 [1, 0] (stack t0 t1 t2 t3 t4 t5 t6 t7 t8 t9 t10 t11 t12 t13 t14 t15) transposes_S128x128_p1_0_S128x128
  stS arg7 0 (by decide) (extractStridedSlice S8x128 ![0, 0] t slices_S128x128_o0_0_S8x128)
  stS arg7 9 (by decide) (extractStridedSlice S8x128 ![8, 0] t slices_S128x128_o8_0_S8x128)
  stS arg7 18 (by decide) (extractStridedSlice S8x128 ![16, 0] t slices_S128x128_o16_0_S8x128)
  stS arg7 27 (by decide) (extractStridedSlice S8x128 ![24, 0] t slices_S128x128_o24_0_S8x128)
  stS arg7 36 (by decide) (extractStridedSlice S8x128 ![32, 0] t slices_S128x128_o32_0_S8x128)
  stS arg7 45 (by decide) (extractStridedSlice S8x128 ![40, 0] t slices_S128x128_o40_0_S8x128)
  stS arg7 54 (by decide) (extractStridedSlice S8x128 ![48, 0] t slices_S128x128_o48_0_S8x128)
  stS arg7 63 (by decide) (extractStridedSlice S8x128 ![56, 0] t slices_S128x128_o56_0_S8x128)
  stS arg7 72 (by decide) (extractStridedSlice S8x128 ![64, 0] t slices_S128x128_o64_0_S8x128)
  stS arg7 81 (by decide) (extractStridedSlice S8x128 ![72, 0] t slices_S128x128_o72_0_S8x128)
  stS arg7 90 (by decide) (extractStridedSlice S8x128 ![80, 0] t slices_S128x128_o80_0_S8x128)
  stS arg7 99 (by decide) (extractStridedSlice S8x128 ![88, 0] t slices_S128x128_o88_0_S8x128)
  stS arg7 108 (by decide) (extractStridedSlice S8x128 ![96, 0] t slices_S128x128_o96_0_S8x128)
  stS arg7 117 (by decide) (extractStridedSlice S8x128 ![104, 0] t slices_S128x128_o104_0_S8x128)
  stS arg7 126 (by decide) (extractStridedSlice S8x128 ![112, 0] t slices_S128x128_o112_0_S8x128)
  stS arg7 135 (by decide) (extractStridedSlice S8x128 ![120, 0] t slices_S128x128_o120_0_S8x128)

/-- Last half step: eight slabs of the second scratch array, their nibble transpose to the output block. -/
def halfO [Facts] (arg7 : Memref sig .tc .vmem S144x128 .i32) (arg4 : Memref sig .tc .vmem S1x16x4x18432 .i8) (harg4 : arg4.IsWhole) (j q r : ℕ) (hj : j ≤ 8) (hq : q ≤ 17408) (hr : r ≤ 73)
    (r0 r1 r2 r3 r4 r5 r6 r7 o0 o1 o2 o3 o4 o5 o6 o7 : ℕ) (R : r0 = r ∧ r1 = r + 1 ∧ r2 = r + 2 ∧ r3 = r + 3 ∧ r4 = r + 4 ∧ r5 = r + 5 ∧ r6 = r + 6 ∧ r7 = r + 7)
    (H : o0 = q ∧ o1 = q + 128 ∧ o2 = q + 256 ∧ o3 = q + 384 ∧ o4 = q + 512 ∧ o5 = q + 640 ∧ o6 = q + 768 ∧ o7 = q + 896) : Prog (TpuEff nD τ sig (Elt F) Λ₀ .tc) PUnit := do
  let z0 : Slab ← ldT arg7 r0 (by rw [R.1]; omega)
  let z1 : Slab ← ldT arg7 r1 (by rw [R.2.1]; omega)
  let z2 : Slab ← ldT arg7 r2 (by rw [R.2.2.1]; omega)
  let z3 : Slab ← ldT arg7 r3 (by rw [R.2.2.2.1]; omega)
  let z4 : Slab ← ldT arg7 r4 (by rw [R.2.2.2.2.1]; omega)
  let z5 : Slab ← ldT arg7 r5 (by rw [R.2.2.2.2.2.1]; omega)
  let z6 : Slab ← ldT arg7 r6 (by rw [R.2.2.2.2.2.2.1]; omega)
  let z7 : Slab ← ldT arg7 r7 (by rw [R.2.2.2.2.2.2.2]; omega)
  stO arg4 harg4 j o0 hj (by rw [H.1]; omega) (nib false false false z0 z1 z2 z3 z4 z5 z6 z7)
  stO arg4 harg4 j o1 hj (by rw [H.2.1]; omega) (nib false false true z0 z1 z2 z3 z4 z5 z6 z7)
  stO arg4 harg4 j o2 hj (by rw [H.2.2.1]; omega) (nib false true false z0 z1 z2 z3 z4 z5 z6 z7)
  stO arg4 harg4 j o3 hj (by rw [H.2.2.2.1]; omega) (nib false true true z0 z1 z2 z3 z4 z5 z6 z7)
  stO arg4 harg4 j o4 hj (by rw [H.2.2.2.2.1]; omega) (nib true false false z0 z1 z2 z3 z4 z5 z6 z7)
  stO arg4 harg4 j o5 hj (by rw [H.2.2.2.2.2.1]; omega) (nib true false true z0 z1 z2 z3 z4 z5 z6 z7)
  stO arg4 harg4 j o6 hj (by rw [H.2.2.2.2.2.2.1]; omega) (nib true true false z0 z1 z2 z3 z4 z5 z6 z7)
  stO arg4 harg4 j o7 hj (by rw [H.2.2.2.2.2.2.2]; omega) (nib true true true z0 z1 z2 z3 z4 z5 z6 z7)

/-- What the body does for the 128 rows of the input block from row `b` (`p` is `b + 8`), and so for the 1024 columns of the output block
    from column `q`. -/
def unitL [Facts] (arg2 : Memref sig .tc .vmem S1x2304x128 .i32) (arg4 : Memref sig .tc .vmem S1x16x4x18432 .i8) (harg4 : arg4.IsWhole) (arg6 arg7 : Memref sig .tc .vmem S144x128 .i32)
    (b p q : ℕ) (hb : b ≤ 2176) (hp : p ≤ 2184) (hq : q ≤ 17408) (o0 o1 o2 o3 o4 o5 o6 o7 p0 p1 p2 p3 p4 p5 p6 p7 q0 q1 q2 q3 q4 q5 q6 q7 : ℕ)
    (H : o0 = b ∧ o1 = b + 16 ∧ o2 = b + 32 ∧ o3 = b + 48 ∧ o4 = b + 64 ∧ o5 = b + 80 ∧ o6 = b + 96 ∧ o7 = b + 112)
    (P : p0 = p ∧ p1 = p + 16 ∧ p2 = p + 32 ∧ p3 = p + 48 ∧ p4 = p + 64 ∧ p5 = p + 80 ∧ p6 = p + 96 ∧ p7 = p + 112)
    (Q : q0 = q ∧ q1 = q + 128 ∧ q2 = q + 256 ∧ q3 = q + 384 ∧ q4 = q + 512 ∧ q5 = q + 640 ∧ q6 = q + 768 ∧ q7 = q + 896) : Prog (TpuEff nD τ sig (Elt F) Λ₀ .tc) PUnit := do
  halfA arg2 arg6 b 0 (by omega) (by decide) o0 o1 o2 o3 o4 o5 o6 o7 0 1 2 3 4 5 6 7 H (by decide)
  halfA arg2 arg6 p 72 (by omega) (by decide) p0 p1 p2 p3 p4 p5 p6 p7 72 73 74 75 76 77 78 79 P (by decide)
  mid arg6 arg7
  halfO arg7 arg4 harg4 0 q 0 (by decide) hq (by decide) 0 1 2 3 4 5 6 7 q0 q1 q2 q3 q4 q5 q6 q7 (by decide) Q
  halfO arg7 arg4 harg4 8 q 72 (by decide) hq (by decide) 72 73 74 75 76 77 78 79 q0 q1 q2 q3 q4 q5 q6 q7 (by decide) Q

/-- The whole body: the scales, then the 18 units. -/
def body [Facts] (i : grid0.Coords) (arg2 : Memref sig .tc .vmem S1x2304x128 .i32) (harg2 : arg2.IsWhole) (arg3 : Memref sig .tc .vmem S1x144x128 .f32) (harg3 : arg3.IsWhole) (arg4 : Memref sig .tc .vmem S1x16x4x18432 .i8) (harg4 : arg4.IsWhole) (arg5 : Memref sig .tc .vmem S1x144x128 .f32) (harg5 : arg5.IsWhole) (arg6 : Memref sig .tc .vmem S144x128 .i32) (harg6 : arg6.IsWhole) (arg7 : Memref sig .tc .vmem S144x128 .i32) (harg7 : arg7.IsWhole) : Prog (TpuEff nD τ sig (Elt F) Λ₀ .tc) PUnit := do
  let v0 : Vec F S1x144x128 .f32 ← Prog.lift (.load arg3 (Rect.unit (s := S1x144x128) ![0, 0, 0] S1x144x128.size inb_S1x144x128_S1x144x128_0_0_0).toLoadRect (View.loadsAt_vmem h_S1x144x128))
  let _v1 : Vec F S1x144x128 .f32 ← Prog.lift (.load arg5 (Rect.unit (s := S1x144x128) ![0, 0, 0] S1x144x128.size inb_S1x144x128_S1x144x128_0_0_0).toLoadRect (View.loadsAt_vmem h_S1x144x128))
  Prog.lift (.store arg5 (Rect.unit (s := S1x144x128) ![0, 0, 0] S1x144x128.size inb_S1x144x128_S1x144x128_0_0_0) v0 Finset.univ (View.stores_vmem_bits_univ h_S1x144x128 rfl) (.inl rfl))
  unitL arg2 arg4 harg4 arg6 arg7 0 8 0 (by decide) (by decide) (by decide) 0 16 32 48 64 80 96 112 8 24 40 56 72 88 104 120 0 128 256 384 512 640 768 896 (by decide) (by decide) (by decide)
  unitL arg2 arg4 harg4 arg6 arg7 128 136 1024 (by decide) (by decide) (by decide) 128 144 160 176 192 208 224 240 136 152 168 184 200 216 232 248 1024 1152 1280 1408 1536 1664 1792 1920 (by decide) (by decide) (by decide)
  unitL arg2 arg4 harg4 arg6 arg7 256 264 2048 (by decide) (by decide) (by decide) 256 272 288 304 320 336 352 368 264 280 296 312 328 344 360 376 2048 2176 2304 2432 2560 2688 2816 2944 (by decide) (by decide) (by decide)
  unitL arg2 arg4 harg4 arg6 arg7 384 392 3072 (by decide) (by decide) (by decide) 384 400 416 432 448 464 480 496 392 408 424 440 456 472 488 504 3072 3200 3328 3456 3584 3712 3840 3968 (by decide) (by decide) (by decide)
  unitL arg2 arg4 harg4 arg6 arg7 512 520 4096 (by decide) (by decide) (by decide) 512 528 544 560 576 592 608 624 520 536 552 568 584 600 616 632 4096 4224 4352 4480 4608 4736 4864 4992 (by decide) (by decide) (by decide)
  unitL arg2 arg4 harg4 arg6 arg7 640 648 5120 (by decide) (by decide) (by decide) 640 656 672 688 704 720 736 752 648 664 680 696 712 728 744 760 5120 5248 5376 5504 5632 5760 5888 6016 (by decide) (by decide) (by decide)
  unitL arg2 arg4 harg4 arg6 arg7 768 776 6144 (by decide) (by decide) (by decide) 768 784 800 816 832 848 864 880 776 792 808 824 840 856 872 888 6144 6272 6400 6528 6656 6784 6912 7040 (by decide) (by decide) (by decide)
  unitL arg2 arg4 harg4 arg6 arg7 896 904 7168 (by decide) (by decide) (by decide) 896 912 928 944 960 976 992 1008 904 920 936 952 968 984 1000 1016 7168 7296 7424 7552 7680 7808 7936 8064 (by decide) (by decide) (by decide)
  unitL arg2 arg4 harg4 arg6 arg7 1024 1032 8192 (by decide) (by decide) (by decide) 1024 1040 1056 1072 1088 1104 1120 1136 1032 1048 1064 1080 1096 1112 1128 1144 8192 8320 8448 8576 8704 8832 8960 9088 (by decide) (by decide) (by decide)
  unitL arg2 arg4 harg4 arg6 arg7 1152 1160 9216 (by decide) (by decide) (by decide) 1152 1168 1184 1200 1216 1232 1248 1264 1160 1176 1192 1208 1224 1240 1256 1272 9216 9344 9472 9600 9728 9856 9984 10112 (by decide) (by decide) (by decide)
  unitL arg2 arg4 harg4 arg6 arg7 1280 1288 10240 (by decide) (by decide) (by decide) 1280 1296 1312 1328 1344 1360 1376 1392 1288 1304 1320 1336 1352 1368 1384 1400 10240 10368 10496 10624 10752 10880 11008 11136 (by decide) (by decide) (by decide)
  unitL arg2 arg4 harg4 arg6 arg7 1408 1416 11264 (by decide) (by decide) (by decide) 1408 1424 1440 1456 1472 1488 1504 1520 1416 1432 1448 1464 1480 1496 1512 1528 11264 11392 11520 11648 11776 11904 12032 12160 (by decide) (by decide) (by decide)
  unitL arg2 arg4 harg4 arg6 arg7 1536 1544 12288 (by decide) (by decide) (by decide) 1536 1552 1568 1584 1600 1616 1632 1648 1544 1560 1576 1592 1608 1624 1640 1656 12288 12416 12544 12672 12800 12928 13056 13184 (by decide) (by decide) (by decide)
  unitL arg2 arg4 harg4 arg6 arg7 1664 1672 13312 (by decide) (by decide) (by decide) 1664 1680 1696 1712 1728 1744 1760 1776 1672 1688 1704 1720 1736 1752 1768 1784 13312 13440 13568 13696 13824 13952 14080 14208 (by decide) (by decide) (by decide)
  unitL arg2 arg4 harg4 arg6 arg7 1792 1800 14336 (by decide) (by decide) (by decide) 1792 1808 1824 1840 1856 1872 1888 1904 1800 1816 1832 1848 1864 1880 1896 1912 14336 14464 14592 14720 14848 14976 15104 15232 (by decide) (by decide) (by decide)
  unitL arg2 arg4 harg4 arg6 arg7 1920 1928 15360 (by decide) (by decide) (by decide) 1920 1936 1952 1968 1984 2000 2016 2032 1928 1944 1960 1976 1992 2008 2024 2040 15360 15488 15616 15744 15872 16000 16128 16256 (by decide) (by decide) (by decide)
  unitL arg2 arg4 harg4 arg6 arg7 2048 2056 16384 (by decide) (by decide) (by decide) 2048 2064 2080 2096 2112 2128 2144 2160 2056 2072 2088 2104 2120 2136 2152 2168 16384 16512 16640 16768 16896 17024 17152 17280 (by decide) (by decide) (by decide)
  unitL arg2 arg4 harg4 arg6 arg7 2176 2184 17408 (by decide) (by decide) (by decide) 2176 2192 2208 2224 2240 2256 2272 2288 2184 2200 2216 2232 2248 2264 2280 2296 17408 17536 17664 17792 17920 18048 18176 18304 (by decide) (by decide) (by decide)
  pure ⟨⟩

open scoped Idealize.ShloMosaic.ProgEq
set_option maxHeartbeats 4000000 in
prog_eq Cert.KernelIdeal.Own.printed_eq : Cert.KernelIdeal.cc0_relayout Cert.KernelIdeal.Own.body from Cert.KernelIdeal to Cert.KernelIdeal at Ideal inferInstance by (intros; rfl)

end Cert.KernelIdeal.Own
-- ==== Proof.Rules.lean ====
/-
  What each of the body's loads and stores does, stated on the contents that the core reads through the array's memref:
  a load continues at the elements of the rectangle, a store at the contents with the rectangle's elements replaced
  (`putT`, `putS`, `putO` for the three kinds of rectangle that the body stores to).
-/
module

public import proofs.«01_k».proof.Proof.Units
public import proofs.«01_k».proof.Proof.Gen.KernelIdeal.Frame.Runs
public import Idealize.ShloMosaic.Lib.ValueIdxCore
public import Idealize.ShloMosaic.Lib.ValueLayout
public import Idealize.ShloMosaic.Lib.BitcastFour

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- The contents of a scratch array, of the input block, of the output block. -/
abbrev Scr := S144x128.Idx → BitVec 32
abbrev Blk := S1x2304x128.Idx → BitVec 32
abbrev Out := S1x16x4x18432.Idx → BitVec 8

/-! ## A load and a store through a rectangle -/

section
variable (c : Dev nD) (E : Set ℕ)

/-- A load at the head of a program. -/
theorem owns_load (Q : PUnit → sProp 𝕄) {cs : CoreSpace} {s : Shape} {e : EltTy} (m : Memref sig .tc cs s e) (r : LoadRect s) (hl : m.view.LoadsAt r) (X : s.Idx → Elt F e)
    (k : (r.shape.Idx → Elt F e) → Prog (TpuEff nD τ sig (Elt F) Λ₀ .tc) PUnit) :
    (owns (c : Thread nD τ) m fullShare X : sProp 𝕄)
      ⊢ iprop((owns (c : Thread nD τ) m fullShare X -∗ wp frame (wpE (defs₀ (F := F)) Variants.none c none) E (k (fun j => X (r.idx j))) Q)
        -∗ wp frame (wpE (defs₀ (F := F)) Variants.none c none) E (.op (.load m r hl) k) Q) := by
  unfold owns
  iintro ⟨%f, %hf, H⟩ Hk
  iapply (wp_load Variants.none (c : Thread nD τ) none E (Q := Q) (m := m) (r := r) (hl := hl) (k := k) (q := fullShare) (f := f)
    (S := m.view.set) (Finset.map_subset_map.mpr (Finset.subset_univ _))) $$ H
  iintro H
  rw [show m.view.readAt (Elt F) r f = (fun j => X (r.idx j)) from by funext j; rw [View.readAt_apply, hf]]
  iapply Hk
  iexists f
  isplitr
  · ipureintro; exact hf
  iexact H

/-- A store at the head of a program: `Y` is the contents with the rectangle's elements replaced. -/
theorem owns_store (Q : PUnit → sProp 𝕄) {cs : CoreSpace} {s : Shape} {e : EltTy} (m : Memref sig .tc cs s e) (r : Rect s) (w : r.shape.Idx → Elt F e)
    (hx : (m.access r).Stores Finset.univ) (hm : Finset.univ = Finset.univ ∨ ∀ a, r.stride a = 1) (X Y : s.Idx → Elt F e)
    (hY : ∀ j, Y (r.emb j) = w j) (hYn : ∀ y, (∀ j, r.emb j ≠ y) → Y y = X y)
    (k : PUnit → Prog (TpuEff nD τ sig (Elt F) Λ₀ .tc) PUnit) :
    (owns (c : Thread nD τ) m fullShare X : sProp 𝕄)
      ⊢ iprop((owns (c : Thread nD τ) m fullShare Y -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩ Hk
  iapply (wp_store Variants.none (c : Thread nD τ) none E (Q := Q) (m := m) (r := r) (w := w) (Mk := Finset.univ) (hx := hx) (hm := hm) (k := k) (f := f)
    (S := m.view.set) (by
      rw [show (m.access r).setOn Finset.univ = (Finset.univ.map r.emb).map m.view.emb from (Finset.map_map _ _ _).symm]
      exact Finset.map_subset_map.mpr (Finset.subset_univ _))) $$ H
  iintro H
  iapply Hk
  iexists ((m.access r).write (Elt F) f w Finset.univ)
  isplitr
  · ipureintro
    funext y
    by_cases h : ∃ j, r.emb j = y
    · obtain ⟨j, rfl⟩ := h
      rw [hY]
      exact View.read_slice_write_emb r f w (Finset.mem_univ j)
    · have h' : ∀ j, r.emb j ≠ y := fun j hj => h ⟨j, hj⟩
      rw [hYn y h', ← hf]
      refine View.read_slice_write_of_not_mem r f w Finset.univ (fun hm => ?_)
      obtain ⟨j, -, hj⟩ := Finset.mem_map.mp hm
      exact h' j hj
  iexact H

end

/-! ## Contents read at numbers -/

/-- The input block's word at row `r` and lane `l`. -/
def atW (X : Blk) (r l : ℕ) : BitVec 32 := if h : r < 2304 ∧ l < 128 then X (ix3 0 ⟨r, h.1⟩ ⟨l, h.2⟩) else 0

/-- A scratch array's word at row `r` and lane `l`. -/
def atS (X : Scr) (r l : ℕ) : BitVec 32 := if h : r < 144 ∧ l < 128 then X (ix2 ⟨r, h.1⟩ ⟨l, h.2⟩) else 0

/-! ## The contents after a store -/

/-- A scratch array with the slab `w` at every ninth row from row `r`. -/
def putT (X : Scr) (r : ℕ) (w : Slab) : Scr := fun y =>
  if h : r ≤ (y 0).val ∧ ((y 0).val - r) % 9 = 0 ∧ ((y 0).val - r) / 9 < 8 then w (ix2 ⟨((y 0).val - r) / 9, h.2.2⟩ (y 1)) else X y

/-- A scratch array with the slab `w` at eight rows from row `r`. -/
def putS (X : Scr) (r : ℕ) (w : Slab) : Scr := fun y =>
  if h : r ≤ (y 0).val ∧ (y 0).val - r < 8 then w (ix2 ⟨(y 0).val - r, h.2⟩ (y 1)) else X y

/-- Byte `b` of a word. -/
def byteOf (b : ℕ) (x : BitVec 32) : BitVec 8 := x.extractLsb' (8 * b) 8

/-- The output block with the bytes of the slab `w` at rows `r` to `r + 7` and columns `o` to `o + 127`. -/
def putO (X : Out) (r o : ℕ) (w : Slab) : Out := fun y =>
  if h : (r ≤ (y 1).val ∧ (y 1).val - r < 8) ∧ (o ≤ (y 3).val ∧ (y 3).val - o < 128) then
    byteOf (y 2).val (w (ix2 ⟨(y 1).val - r, h.1.2⟩ ⟨(y 3).val - o, h.2.2⟩)) else X y

/-- A slab's bytes at an index: byte `b` of the word. -/
theorem bytesOf_apply [Facts] (w : Slab) (j : S1x8x4x128.Idx) : bytesOf w j = byteOf (j 2).val (w (ix2 (j 1) (j 3))) := by
  obtain ⟨a, s, b, l, rfl⟩ : ∃ a s b l, j = ix4 a s b l := ⟨j 0, j 1, j 2, j 3, eq_ix4 j⟩
  unfold bytesOf
  rw [shapeCast_abc_1abc_apply]
  have h32 : 4 * s.val + b.val < 32 := by have := s.isLt; have := b.isLt; omega
  have e1 : ∀ (v : S32x128.Idx → BitVec 8), shapeCast S8x4x128 v shapeCasts_S32x128_S8x4x128 (ix3 s b l) = v (ix2 ⟨4 * s.val + b.val, h32⟩ l) := by
    intro v
    refine shapeCast_apply v _ _ _ ?_
    rw [Shape.rowMajor_val_two, Shape.rowMajor_val_three]
    show (4 * s.val + b.val) * 128 + l.val = (s.val * 4 + b.val) * 128 + l.val
    omega
  rw [e1]
  apply BitVec.eq_of_getLsbD_eq
  intro q hq
  rw [bitcast_getLsbD _ _ _ q hq (by decide)]
  have hrow : (S32x128.row (ix2 ⟨4 * s.val + b.val, h32⟩ l)) = 4 * s.val + b.val := rfl
  have e2 : (S32x128.row (ix2 ⟨4 * s.val + b.val, h32⟩ l) * 8 + q) % 32 = 8 * b.val + q := by
    rw [hrow]; have := b.isLt; omega
  have e3 : (S32x128.row (ix2 ⟨4 * s.val + b.val, h32⟩ l) * 8 + q) / 32 = s.val := by
    rw [hrow]; have := b.isLt; omega
  unfold byteOf
  rw [BitVec.getLsbD_extractLsb', e2]
  show _ = (decide (q < 8) && (w (ix2 s l)).getLsbD (8 * b.val + q))
  rw [decide_eq_true hq, Bool.true_and]
  congr 2
  funext a
  match a with
  | ⟨0, _⟩ => exact Fin.ext ((Shape.Bitcasts.srcIdx_row _ _ _ _ ⟨0, Nat.zero_lt_two⟩ rfl).trans e3)
  | ⟨1, _⟩ => exact Fin.ext (Shape.Bitcasts.srcIdx_other _ _ _ _ ⟨1, Nat.one_lt_two⟩ (by show ¬ 1 + 2 = 2; omega))

/-! ## The body's loads and stores at the head of a program -/

section
variable [Facts] (c : Dev nD) (E : Set ℕ)

/-- Loading eight rows of the input block. -/
theorem wp_ldW (Q : PUnit → sProp 𝕄) (m : Memref sig .tc .vmem S1x2304x128 .i32) (o : ℕ) (h : o ≤ 2296) (X : Blk) (K : Slab → Prog (TpuEff nD τ sig (Elt F) Λ₀ .tc) PUnit) :
    (owns (Val := Elt F) (c : Thread nD τ) m fullShare X : sProp 𝕄)
      ⊢ iprop((owns (Val := Elt F) (c : Thread nD τ) m fullShare X -∗ wp frame (wpE (defs₀ (F := F)) Variants.none c none) E (K (fun j => atW X (o + (j 0).val) (j 1).val)) Q)
        -∗ wp frame (wpE (defs₀ (F := F)) Variants.none c none) E (ldW m o h >>= K) Q) := by
  have e : (fun j : S8x128.Idx => atW X (o + (j 0).val) (j 1).val)
      = shapeCast S8x128 (fun j => X ((Rect.unit (s := S1x2304x128) ![0, o, 0] S1x8x128.size (inbW h)).toLoadRect.idx j)) shapeCasts_S1x8x128_S8x128 := by
    funext j
    obtain ⟨s, l, rfl⟩ : ∃ s l, j = ix2 s l := ⟨j 0, j 1, eq_ix2 j⟩
    refine Eq.trans ?_ (shapeCast_1ab_ab_apply _ _ s l).symm
    have hc : o + s.val < 2304 ∧ l.val < 128 := ⟨by have := s.isLt; omega, l.isLt⟩
    refine (dif_pos hc).trans (congrArg X ?_)
    funext a
    match a with
    | ⟨0, _⟩ => rfl
    | ⟨1, _⟩ => exact Fin.ext (by show o + s.val = o + 1 * s.val; omega)
    | ⟨2, _⟩ => exact Fin.ext (by show l.val = 0 + 1 * l.val; omega)
  rw [e]
  exact owns_load c E Q m _ (View.loadsAt_vmem h_S1x8x128) X (fun v => K (shapeCast S8x128 v shapeCasts_S1x8x128_S8x128))

/-- Loading eight rows of a scratch array. -/
theorem wp_ldS (Q : PUnit → sProp 𝕄) (m : Memref sig .tc .vmem S144x128 .i32) (o : ℕ) (h : o ≤ 136) (X : Scr) (K : Slab → Prog (TpuEff nD τ sig (Elt F) Λ₀ .tc) PUnit) :
    (owns (Val := Elt F) (c : Thread nD τ) m fullShare X : sProp 𝕄)
      ⊢ iprop((owns (Val := Elt F) (c : Thread nD τ) m fullShare X -∗ wp frame (wpE (defs₀ (F := F)) Variants.none c none) E (K (fun j => atS X (o + (j 0).val) (j 1).val)) Q)
        -∗ wp frame (wpE (defs₀ (F := F)) Variants.none c none) E (ldS m o h >>= K) Q) := by
  have e : (fun j : S8x128.Idx => atS X (o + (j 0).val) (j 1).val)
      = (fun j => X ((Rect.unit (s := S144x128) ![o, 0] S8x128.size (inbS h)).toLoadRect.idx j)) := by
    funext j
    have hc : o + (j 0).val < 144 ∧ (j 1).val < 128 := ⟨by have : (j 0).val < 8 := (j 0).isLt; omega, (j 1).isLt⟩
    refine (dif_pos hc).trans (congrArg X ?_)
    funext a
    match a with
    | ⟨0, _⟩ => exact Fin.ext (by show o + (j 0).val = o + 1 * (j 0).val; omega)
    | ⟨1, _⟩ => exact Fin.ext (by show (j 1).val = 0 + 1 * (j 1).val; omega)
  rw [e]
  exact owns_load c E Q m (Rect.unit (s := S144x128) ![o, 0] S8x128.size (inbS h)).toLoadRect (View.loadsAt_vmem h_S8x128) X K

/-- Loading every ninth row of a scratch array. -/
theorem wp_ldT (Q : PUnit → sProp 𝕄) (m : Memref sig .tc .vmem S144x128 .i32) (o : ℕ) (h : o ≤ 80) (X : Scr) (K : Slab → Prog (TpuEff nD τ sig (Elt F) Λ₀ .tc) PUnit) :
    (owns (Val := Elt F) (c : Thread nD τ) m fullShare X : sProp 𝕄)
      ⊢ iprop((owns (Val := Elt F) (c : Thread nD τ) m fullShare X -∗ wp frame (wpE (defs₀ (F := F)) Variants.none c none) E (K (fun j => atS X (o + 9 * (j 0).val) (j 1).val)) Q)
        -∗ wp frame (wpE (defs₀ (F := F)) Variants.none c none) E (ldT m o h >>= K) Q) := by
  have e : (fun j : S8x128.Idx => atS X (o + 9 * (j 0).val) (j 1).val)
      = (fun j => X ((⟨![o, 0], S8x128.size, ![9, 1], inbT h⟩ : LoadRect S144x128).idx j)) := by
    funext j
    have hc : o + 9 * (j 0).val < 144 ∧ (j 1).val < 128 := ⟨by have : (j 0).val < 8 := (j 0).isLt; omega, (j 1).isLt⟩
    refine (dif_pos hc).trans (congrArg X ?_)
    funext a
    match a with
    | ⟨0, _⟩ => rfl
    | ⟨1, _⟩ => exact Fin.ext (by show (j 1).val = 0 + 1 * (j 1).val; omega)
  rw [e]
  exact owns_load c E Q m (⟨![o, 0], S8x128.size, ![9, 1], inbT h⟩ : LoadRect S144x128) (View.loadsAt_vmem h_S8x128) X K

/-- Storing to eight rows of a scratch array. -/
theorem wp_stS (Q : PUnit → sProp 𝕄) (m : Memref sig .tc .vmem S144x128 .i32) (o : ℕ) (h : o ≤ 136) (w : Slab) (X : Scr) (K : PUnit → Prog (TpuEff nD τ sig (Elt F) Λ₀ .tc) PUnit) :
    (owns (Val := Elt F) (c : Thread nD τ) m fullShare X : sProp 𝕄)
      ⊢ iprop((owns (Val := Elt F) (c : Thread nD τ) m fullShare (putS X o w) -∗ wp frame (wpE (defs₀ (F := F)) Variants.none c none) E (K ⟨⟩) Q)
        -∗ wp frame (wpE (defs₀ (F := F)) Variants.none c none) E (stS m o h w >>= K) Q) := by
  iintro H Hk
  iapply (owns_load c E Q m _ (View.loadsAt_vmem h_S8x128) X _) $$ H
  iintro H
  iapply (owns_store c E Q m (Rect.unit (s := S144x128) ![o, 0] S8x128.size (inbS h)) _ _ _ X (putS X o w) ?_ ?_ K) $$ H
  · intro j
    have h8 : (j 0).val < 8 := (j 0).isLt
    unfold putS
    have hc : o ≤ o + 1 * (j 0).val ∧ o + 1 * (j 0).val - o < 8 := by omega
    rw [shapeCast_self]
    refine (dif_pos hc).trans ?_
    refine congrArg w ?_
    funext a
    match a with
    | ⟨0, _⟩ => exact Fin.ext (by show o + 1 * (j 0).val - o = (j 0).val; omega)
    | ⟨1, _⟩ => exact Fin.ext (by show 0 + 1 * (j 1).val = (j 1).val; omega)
  · intro y hy
    unfold putS
    rw [dif_neg]
    rintro ⟨h1, h2⟩
    refine hy (ix2 ⟨(y 0).val - o, h2⟩ (y 1)) ?_
    funext a
    match a with
    | ⟨0, _⟩ => exact Fin.ext (by show o + 1 * ((y 0).val - o) = (y 0).val; omega)
    | ⟨1, _⟩ => exact Fin.ext (by show 0 + 1 * (y 1).val = (y 1).val; omega)
  iexact Hk

/-- Storing to every ninth row of a scratch array. -/
theorem wp_stT (Q : PUnit → sProp 𝕄) (m : Memref sig .tc .vmem S144x128 .i32) (o : ℕ) (h : o ≤ 80) (w : Slab) (X : Scr) (K : PUnit → Prog (TpuEff nD τ sig (Elt F) Λ₀ .tc) PUnit) :
    (owns (Val := Elt F) (c : Thread nD τ) m fullShare X : sProp 𝕄)
      ⊢ iprop((owns (Val := Elt F) (c : Thread nD τ) m fullShare (putT X o w) -∗ wp frame (wpE (defs₀ (F := F)) Variants.none c none) E (K ⟨⟩) Q)
        -∗ wp frame (wpE (defs₀ (F := F)) Variants.none c none) E (stT m o h w >>= K) Q) := by
  iintro H Hk
  iapply (owns_load c E Q m _ (View.loadsAt_vmem h_S8x128) X _) $$ H
  iintro H
  iapply (owns_store c E Q m ⟨(⟨![o, 0], S8x128.size, ![9, 1], inbT h⟩ : LoadRect S144x128), spos_9_1⟩ _ _ _ X (putT X o w) ?_ ?_ K) $$ H
  · intro j
    have h8 : (j 0).val < 8 := (j 0).isLt
    unfold putT
    have hc : o ≤ o + 9 * (j 0).val ∧ (o + 9 * (j 0).val - o) % 9 = 0 ∧ (o + 9 * (j 0).val - o) / 9 < 8 := by omega
    rw [shapeCast_self]
    refine (dif_pos hc).trans ?_
    refine congrArg w ?_
    funext a
    match a with
    | ⟨0, _⟩ => exact Fin.ext (by show (o + 9 * (j 0).val - o) / 9 = (j 0).val; omega)
    | ⟨1, _⟩ => exact Fin.ext (by show 0 + 1 * (j 1).val = (j 1).val; omega)
  · intro y hy
    unfold putT
    rw [dif_neg]
    rintro ⟨h1, h2, h3⟩
    refine hy (ix2 ⟨((y 0).val - o) / 9, h3⟩ (y 1)) ?_
    funext a
    match a with
    | ⟨0, _⟩ => exact Fin.ext (by show o + 9 * (((y 0).val - o) / 9) = (y 0).val; omega)
    | ⟨1, _⟩ => exact Fin.ext (by show 0 + 1 * (y 1).val = (y 1).val; omega)
  iexact Hk

/-- Storing a slab's bytes to the output block. -/
theorem wp_stO (Q : PUnit → sProp 𝕄) (m : Memref sig .tc .vmem S1x16x4x18432 .i8) (hm : m.IsWhole) (r o : ℕ) (hr : r ≤ 8) (h : o ≤ 18304) (w : Slab) (X : Out) (K : PUnit → Prog (TpuEff nD τ sig (Elt F) Λ₀ .tc) PUnit) :
    (owns (Val := Elt F) (c : Thread nD τ) m fullShare X : sProp 𝕄)
      ⊢ iprop((owns (Val := Elt F) (c : Thread nD τ) m fullShare (putO X r o w) -∗ wp frame (wpE (defs₀ (F := F)) Variants.none c none) E (K ⟨⟩) Q)
        -∗ wp frame (wpE (defs₀ (F := F)) Variants.none c none) E (stO m hm r o hr h w >>= K) Q) := by
  iintro H Hk
  iapply (owns_load c E Q m _ (View.loadsAt_vmem h_S1x8x4x128) X _) $$ H
  iintro H
  iapply (owns_store c E Q m (Rect.unit (s := S1x16x4x18432) ![0, r, 0, o] S1x8x4x128.size (inbO hr h)) _ _ _ X (putO X r o w) ?_ ?_ K) $$ H
  · intro j
    have h8 : (j 1).val < 8 := (j 1).isLt
    have h128 : (j 3).val < 128 := (j 3).isLt
    rw [bytesOf_apply]
    unfold putO
    have hc : (r ≤ r + 1 * (j 1).val ∧ r + 1 * (j 1).val - r < 8) ∧ (o ≤ o + 1 * (j 3).val ∧ o + 1 * (j 3).val - o < 128) := by omega
    refine (dif_pos hc).trans ?_
    refine congr (congrArg byteOf ?_) (congrArg w ?_)
    · show 0 + 1 * (j 2).val = (j 2).val; omega
    funext a
    match a with
    | ⟨0, _⟩ => exact Fin.ext (by show r + 1 * (j 1).val - r = (j 1).val; omega)
    | ⟨1, _⟩ => exact Fin.ext (by show o + 1 * (j 3).val - o = (j 3).val; omega)
  · intro y hy
    unfold putO
    rw [dif_neg]
    rintro ⟨⟨h1, h2⟩, h3, h4⟩
    refine hy (ix4 0 ⟨(y 1).val - r, h2⟩ (y 2) ⟨(y 3).val - o, h4⟩) ?_
    have h0 : (y 0).val < 1 := (y 0).isLt
    funext a
    match a with
    | ⟨0, _⟩ => exact Fin.ext (by show 0 + 1 * 0 = (y 0).val; omega)
    | ⟨1, _⟩ => exact Fin.ext (by show r + 1 * ((y 1).val - r) = (y 1).val; omega)
    | ⟨2, _⟩ => exact Fin.ext (by show 0 + 1 * (y 2).val = (y 2).val; omega)
    | ⟨3, _⟩ => exact Fin.ext (by show o + 1 * ((y 3).val - o) = (y 3).val; omega)
  iexact Hk

end

end Cert.KernelIdeal.Own
-- ==== Proof.NibVal.lean ====
/-
  The nibble transpose at one index. `nibF f g` is the word whose nibble `h` is nibble `f` of the word `g h`;
  `nib` computes it (`nib_apply`), and doing it twice brings the nibble back (`nibF_nibF`).
-/
module

public import proofs.«01_k».proof.Proof.Nib
public import Idealize.ShloMosaic.Lib.Pointwise.ElementwiseCore
public import Mathlib.Tactic.IntervalCases

@[expose] public section

noncomputable section

namespace Cert.KernelIdeal.Own

open Idealize.ShloMosaic

/-- Nibble `f` of the word `x`, moved to nibble `h`. -/
def nibAt (f h : ℕ) (x : BitVec 32) : BitVec 32 := ((x >>> (4 * f)) &&& 15#32) <<< (4 * h)

/-- The word whose nibble `h` is nibble `f` of the word `g h`. -/
def nibF (f : ℕ) (g : ℕ → BitVec 32) : BitVec 32 :=
  nibAt f 0 (g 0) ||| nibAt f 1 (g 1) ||| nibAt f 2 (g 2) ||| nibAt f 3 (g 3)
    ||| nibAt f 4 (g 4) ||| nibAt f 5 (g 5) ||| nibAt f 6 (g 6) ||| nibAt f 7 (g 7)

/-- The bits of a moved nibble. -/
theorem nibAt_bit (f h : ℕ) (x : BitVec 32) (i : ℕ) (hi : i < 32) :
    (nibAt f h x).getLsbD i = (decide (i / 4 = h) && x.getLsbD (4 * f + i % 4)) := by
  have h15 : ∀ k : ℕ, (15#32 : BitVec 32).getLsbD k = decide (k < 4) := by
    intro k
    by_cases hk : k < 4
    · interval_cases k <;> rfl
    · rw [decide_eq_false hk]
      by_cases hk2 : k < 32
      · interval_cases k <;> first | rfl | omega
      · exact BitVec.getLsbD_of_ge _ _ (by omega)
  unfold nibAt
  rw [BitVec.getLsbD_shiftLeft, BitVec.getLsbD_and, BitVec.getLsbD_ushiftRight, h15, decide_eq_true hi]
  by_cases e : i / 4 = h
  · rw [decide_eq_true e, decide_eq_false (show ¬ i < 4 * h by omega), decide_eq_true (show i - 4 * h < 4 by omega),
      show i - 4 * h = i % 4 by omega]
    simp
  · rw [decide_eq_false e]
    by_cases e2 : i < 4 * h
    · rw [decide_eq_true e2]; simp
    · rw [decide_eq_false (show ¬ i - 4 * h < 4 by omega)]; simp

/-- The bits of the word. -/
theorem nibF_bit (f : ℕ) (g : ℕ → BitVec 32) (i : ℕ) (hi : i < 32) :
    (nibF f g).getLsbD i = (g (i / 4)).getLsbD (4 * f + i % 4) := by
  unfold nibF
  simp only [BitVec.getLsbD_or, nibAt_bit _ _ _ _ hi]
  generalize 4 * f + i % 4 = p
  have hk : i / 4 < 8 := by omega
  generalize i / 4 = k at hk ⊢
  interval_cases k <;> simp

/-- Nibble `h` of the words `nibF f (w · g)` is nibble `f` of the words `w h g`. -/
theorem nibF_nibF (f h : ℕ) (hh : h < 8) (w : ℕ → ℕ → BitVec 32) :
    nibF h (fun g => nibF f (fun h' => w h' g)) = nibF f (fun g => w h g) := by
  apply BitVec.eq_of_getLsbD_eq
  intro i hi
  rw [nibF_bit _ _ _ hi, nibF_bit _ _ _ hi, nibF_bit _ _ _ (by omega)]
  rw [show (4 * h + i % 4) / 4 = h by omega, show (4 * h + i % 4) % 4 = i % 4 by omega]

/-- Only the first eight words count. -/
theorem nibF_congr (f : ℕ) {g g' : ℕ → BitVec 32} (h : ∀ k, k < 8 → g k = g' k) : nibF f g = nibF f g' := by
  apply BitVec.eq_of_getLsbD_eq
  intro i hi
  rw [nibF_bit _ _ _ hi, nibF_bit _ _ _ hi, h _ (by omega)]

/-- The bits of the 16-bit level. -/
theorem lvl16_bit (a : Bool) (u v : Slab) (j : S8x128.Idx) (i : ℕ) (hi : i < 32) :
    (lvl16 a u v j).getLsbD i = if i < 16 then (u j).getLsbD (16 * a.toNat + i) else (v j).getLsbD (16 * a.toNat + (i - 16)) := by
  have hs : ∀ (w : Slab), shr 16#32 w j = (w j) >>> 16 := fun w => rfl
  cases a
  · show (packElementwiseI16 u v j).getLsbD i = _
    rw [packElementwiseI16_apply, BitVec.getLsbD_append]
    split_ifs with h
    · simp [BitVec.getLsbD_setWidth, h]
    · simp [BitVec.getLsbD_setWidth]; intro; omega
  · show (packElementwiseI16 (shr 16#32 u) (shr 16#32 v) j).getLsbD i = _
    rw [packElementwiseI16_apply, BitVec.getLsbD_append, hs, hs]
    split_ifs with h
    · simp [BitVec.getLsbD_setWidth, h]
    · simp [BitVec.getLsbD_setWidth]; intro; omega

/-- The bits of an interleaving of bytes. -/
theorem pkm8_bit (u v : Slab) (j : S8x128.Idx) (i : ℕ) (hi : i < 32) :
    (pkm 16711935#32 8#32 u v j).getLsbD i = if i % 16 < 8 then (u j).getLsbD i else (v j).getLsbD (i - 8) := by
  show (((u j) &&& 16711935#32) ||| (((v j) &&& 16711935#32) <<< 8)).getLsbD i = _
  interval_cases i <;> simp

/-- The bits of an interleaving of nibbles. -/
theorem pkm4_bit (u v : Slab) (j : S8x128.Idx) (i : ℕ) (hi : i < 32) :
    (pkm 252645135#32 4#32 u v j).getLsbD i = if i % 8 < 4 then (u j).getLsbD i else (v j).getLsbD (i - 4) := by
  show (((u j) &&& 252645135#32) ||| (((v j) &&& 252645135#32) <<< 4)).getLsbD i = _
  interval_cases i <;> simp

/-- The bits of the 8-bit level. -/
theorem lvl8_bit (b : Bool) (u v : Slab) (j : S8x128.Idx) (i : ℕ) (hi : i < 32) :
    (lvl8 b u v j).getLsbD i = if i % 16 < 8 then (u j).getLsbD (8 * b.toNat + i) else (v j).getLsbD (8 * b.toNat + (i - 8)) := by
  have hs : ∀ (w : Slab) (k : ℕ), (shr 8#32 w j).getLsbD k = (w j).getLsbD (8 + k) := fun w k => by
    show ((w j) >>> 8).getLsbD k = _
    rw [BitVec.getLsbD_ushiftRight]
  cases b
  · show (pkm 16711935#32 8#32 u v j).getLsbD i = _
    rw [pkm8_bit _ _ _ _ hi]; simp
  · show (pkm 16711935#32 8#32 (shr 8#32 u) (shr 8#32 v) j).getLsbD i = _
    rw [pkm8_bit _ _ _ _ hi, hs, hs]; simp

/-- The bits of the 4-bit level. -/
theorem lvl4_bit (c : Bool) (u v : Slab) (j : S8x128.Idx) (i : ℕ) (hi : i < 32) :
    (lvl4 c u v j).getLsbD i = if i % 8 < 4 then (u j).getLsbD (4 * c.toNat + i) else (v j).getLsbD (4 * c.toNat + (i - 4)) := by
  have hs : ∀ (w : Slab) (k : ℕ), (shr 4#32 w j).getLsbD k = (w j).getLsbD (4 + k) := fun w k => by
    show ((w j) >>> 4).getLsbD k = _
    rw [BitVec.getLsbD_ushiftRight]
  cases c
  · show (pkm 252645135#32 4#32 u v j).getLsbD i = _
    rw [pkm4_bit _ _ _ _ hi]; simp
  · show (pkm 252645135#32 4#32 (shr 4#32 u) (shr 4#32 v) j).getLsbD i = _
    rw [pkm4_bit _ _ _ _ hi, hs, hs]; simp

/-- Output slab `4 * a + 2 * b + c` of the nibble transpose, at an index. -/
theorem nib_apply (a b c : Bool) (G : ℕ → Slab) (j : S8x128.Idx) :
    nib a b c (G 0) (G 1) (G 2) (G 3) (G 4) (G 5) (G 6) (G 7) j = nibF (4 * a.toNat + 2 * b.toNat + c.toNat) (fun h => G h j) := by
  apply BitVec.eq_of_getLsbD_eq
  intro i hi
  have ha : a.toNat ≤ 1 := Bool.toNat_le a
  have hb : b.toNat ≤ 1 := Bool.toNat_le b
  have hc : c.toNat ≤ 1 := Bool.toNat_le c
  have key : ∀ (k k' p p' : ℕ), k = k' → p = p' → (G k j).getLsbD p = (G k' j).getLsbD p' := by
    rintro k _ p _ rfl rfl; rfl
  unfold nib
  rw [nibF_bit _ _ _ hi, lvl4_bit _ _ _ _ _ hi]
  split_ifs with h1
  · rw [lvl8_bit _ _ _ _ _ (by omega)]
    split_ifs with h2
    · rw [lvl16_bit _ _ _ _ _ (by omega)]
      split_ifs with h3
      · exact key _ _ _ _ (by omega) (by omega)
      · exact key _ _ _ _ (by omega) (by omega)
    · rw [lvl16_bit _ _ _ _ _ (by omega)]
      split_ifs with h3
      · exact key _ _ _ _ (by omega) (by omega)
      · exact key _ _ _ _ (by omega) (by omega)
  · rw [lvl8_bit _ _ _ _ _ (by omega)]
    split_ifs with h2
    · rw [lvl16_bit _ _ _ _ _ (by omega)]
      split_ifs with h3
      · exact key _ _ _ _ (by omega) (by omega)
      · exact key _ _ _ _ (by omega) (by omega)
    · rw [lvl16_bit _ _ _ _ _ (by omega)]
      split_ifs with h3
      · exact key _ _ _ _ (by omega) (by omega)
      · exact key _ _ _ _ (by omega) (by omega)

end Cert.KernelIdeal.Own
-- ==== Proof.Halves.lean ====
/-
  What the three steps of a unit leave: `halfA` the nibble transposes of eight slabs of the input block in 72 rows of the
  first scratch array (`putA`), `mid` the first scratch array's 128 by 128 words transposed in the second (`putM`), `halfO`
  the nibble transposes of eight slabs of the second scratch array in the output block (`putH`).
-/
module

public import proofs.«01_k».proof.Proof.Rules
public import proofs.«01_k».proof.Proof.NibVal
public import Idealize.ShloMosaic.Lib.Pipeline.Value

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The contents -/

/-- Rows `r + 9 * s + f`, `s` and `f` below 8, at the words `g f s l`. -/
def putA (X : Scr) (r : ℕ) (g : ℕ → ℕ → ℕ → BitVec 32) : Scr := fun y =>
  if r ≤ (y 0).val ∧ (y 0).val - r < 72 ∧ ((y 0).val - r) % 9 < 8 then g (((y 0).val - r) % 9) (((y 0).val - r) / 9) (y 1).val else X y

/-- A slab from its words. -/
def slab (g : ℕ → ℕ → BitVec 32) : Slab := fun j => g (j 0).val (j 1).val

/-- A slab stored at every ninth row, at a row. -/
theorem putT_slab (X : Scr) (r : ℕ) (g : ℕ → ℕ → BitVec 32) (y : S144x128.Idx) :
    putT X r (slab g) y = if r ≤ (y 0).val ∧ ((y 0).val - r) % 9 = 0 ∧ ((y 0).val - r) / 9 < 8 then g (((y 0).val - r) / 9) (y 1).val else X y := by
  unfold putT slab
  split_ifs <;> rfl

/-- A slab stored at eight rows, at a row. -/
theorem putS_slab (X : Scr) (r : ℕ) (g : ℕ → ℕ → BitVec 32) (y : S144x128.Idx) :
    putS X r (slab g) y = if r ≤ (y 0).val ∧ (y 0).val - r < 8 then g ((y 0).val - r) (y 1).val else X y := by
  unfold putS slab
  split_ifs <;> rfl

/-- Eight slabs stored at rows `r` to `r + 7`, each at every ninth row. -/
theorem putT_eight (X : Scr) (r : ℕ) (g : ℕ → ℕ → ℕ → BitVec 32) :
    putT (putT (putT (putT (putT (putT (putT (putT X r (slab (g 0))) (r + 1) (slab (g 1))) (r + 2) (slab (g 2))) (r + 3) (slab (g 3)))
      (r + 4) (slab (g 4))) (r + 5) (slab (g 5))) (r + 6) (slab (g 6))) (r + 7) (slab (g 7)) = putA X r g := by
  funext y
  simp only [putT_slab, putA]
  generalize (y 0).val = a
  have key : ∀ (k k' s s' : ℕ), k = k' → s = s' → g k s (y 1).val = g k' s' (y 1).val := by
    rintro k _ s _ rfl rfl; rfl
  by_cases hA : r ≤ a ∧ a - r < 72 ∧ (a - r) % 9 < 8
  · rw [if_pos hA]
    obtain ⟨h1, h2, h3⟩ := hA
    obtain ⟨s, k, hk, hs, rfl⟩ : ∃ s k, k < 8 ∧ s < 8 ∧ a = r + 9 * s + k := ⟨(a - r) / 9, (a - r) % 9, h3, by omega, by omega⟩
    interval_cases k
    all_goals
      repeat rw [if_neg (by omega)]
      rw [if_pos (by omega)]
      exact key _ _ _ _ (by omega) (by omega)
  · rw [if_neg hA]
    repeat rw [if_neg (by omega)]

/-- The nibble transpose of eight slabs, as a slab. -/
theorem nib_slab (a b c : Bool) (g : ℕ → ℕ → ℕ → BitVec 32) :
    nib a b c (slab (g 0)) (slab (g 1)) (slab (g 2)) (slab (g 3)) (slab (g 4)) (slab (g 5)) (slab (g 6)) (slab (g 7))
      = slab (fun s l => nibF (4 * a.toNat + 2 * b.toNat + c.toNat) (fun h => g h s l)) :=
  funext fun j => nib_apply a b c (fun h => slab (g h)) j

/-! ## The first half step -/

section
variable [Facts] (c : Dev nD) (E : Set ℕ)

/-- `halfA`: eight slabs of the input block, 16 rows apart from row `b`, transposed to the first scratch array from row `r`. -/
theorem wp_halfA (Q : PUnit → sProp 𝕄) (m2 : Memref sig .tc .vmem S1x2304x128 .i32) (m6 : Memref sig .tc .vmem S144x128 .i32) (b r : ℕ) (hb : b ≤ 2184) (hr : r ≤ 73)
    (o0 o1 o2 o3 o4 o5 o6 o7 r0 r1 r2 r3 r4 r5 r6 r7 : ℕ) (H) (R) (W : Blk) (X : Scr) (K : PUnit → Prog (TpuEff nD τ sig (Elt F) Λ₀ .tc) PUnit) :
    iprop(owns (Val := Elt F) (c : Thread nD τ) m2 fullShare W ∗ owns (Val := Elt F) (c : Thread nD τ) m6 fullShare X : sProp 𝕄)
      ⊢ iprop((owns (Val := Elt F) (c : Thread nD τ) m2 fullShare W
            ∗ owns (Val := Elt F) (c : Thread nD τ) m6 fullShare (putA X r (fun f s l => nibF f (fun h => atW W (b + 16 * h + s) l)))
          -∗ wp frame (wpE (defs₀ (F := F)) Variants.none c none) E (K ⟨⟩) Q)
        -∗ wp frame (wpE (defs₀ (F := F)) Variants.none c none) E (halfA m2 m6 b r hb hr o0 o1 o2 o3 o4 o5 o6 o7 r0 r1 r2 r3 r4 r5 r6 r7 H R >>= K) Q) := by
  obtain ⟨rfl, rfl, rfl, rfl, rfl, rfl, rfl, rfl⟩ := H
  obtain ⟨rfl, rfl, rfl, rfl, rfl, rfl, rfl, rfl⟩ := R
  have hn : ∀ (a b' c' : Bool), _ = _ := fun a b' c' => nib_slab a b' c' (fun h s l => atW W (o0 + 16 * h + s) l)
  rw [← putT_eight]
  iintro ⟨H2, H6⟩ Hk
  unfold halfA
  simp only [bind_assoc]
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_ldW c E Q m2 _ _ W _) $$ H2
  iintro H2
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply (wp_stT c E Q m6 _ _ _ _ _) $$ H6
  iintro H6
  iapply Hk
  isplitl [H2]
  · iexact H2
  rw [show (slab fun s l => nibF 0 (fun h => atW W (o0 + 16 * h + s) l)) = _ from (hn false false false).symm,
    show (slab fun s l => nibF 1 (fun h => atW W (o0 + 16 * h + s) l)) = _ from (hn false false true).symm,
    show (slab fun s l => nibF 2 (fun h => atW W (o0 + 16 * h + s) l)) = _ from (hn false true false).symm,
    show (slab fun s l => nibF 3 (fun h => atW W (o0 + 16 * h + s) l)) = _ from (hn false true true).symm,
    show (slab fun s l => nibF 4 (fun h => atW W (o0 + 16 * h + s) l)) = _ from (hn true false false).symm,
    show (slab fun s l => nibF 5 (fun h => atW W (o0 + 16 * h + s) l)) = _ from (hn true false true).symm,
    show (slab fun s l => nibF 6 (fun h => atW W (o0 + 16 * h + s) l)) = _ from (hn true true false).symm,
    show (slab fun s l => nibF 7 (fun h => atW W (o0 + 16 * h + s) l)) = _ from (hn true true true).symm]
  iexact H6

/-! ## The middle step -/

/-- The word at row `l` and column `k` of the 128 by 128 words of a scratch array, transposed. -/
def tr (A : Scr) (l k : ℕ) : BitVec 32 := atS A (9 * (k / 8) + k % 8) l

/-- A scratch array with 128 by 128 words: row `8 * u + s` of them at row `9 * u + s`. -/
def putM (Y : Scr) (g : ℕ → ℕ → BitVec 32) : Scr := fun y =>
  if (y 0).val % 9 < 8 then g (8 * ((y 0).val / 9) + (y 0).val % 9) (y 1).val else Y y

/-- Sixteen slabs stored, each at eight of nine rows. -/
theorem putS_sixteen (Y : Scr) (g : ℕ → ℕ → BitVec 32) :
    (putS (putS (putS (putS (putS (putS (putS (putS (putS (putS (putS (putS (putS (putS (putS (putS Y 0 (slab (fun s l => g (0 + s) l))) 9 (slab (fun s l => g (8 + s) l))) 18 (slab (fun s l => g (16 + s) l))) 27 (slab (fun s l => g (24 + s) l))) 36 (slab (fun s l => g (32 + s) l))) 45 (slab (fun s l => g (40 + s) l))) 54 (slab (fun s l => g (48 + s) l))) 63 (slab (fun s l => g (56 + s) l))) 72 (slab (fun s l => g (64 + s) l))) 81 (slab (fun s l => g (72 + s) l))) 90 (slab (fun s l => g (80 + s) l))) 99 (slab (fun s l => g (88 + s) l))) 108 (slab (fun s l => g (96 + s) l))) 117 (slab (fun s l => g (104 + s) l))) 126 (slab (fun s l => g (112 + s) l))) 135 (slab (fun s l => g (120 + s) l)))
      = putM Y g := by
  funext y
  simp only [putS_slab, putM]
  have ha : (y 0).val < 144 := (y 0).isLt
  generalize (y 0).val = a at ha ⊢
  have key : ∀ (k k' : ℕ), k = k' → g k (y 1).val = g k' (y 1).val := by
    rintro k _ rfl; rfl
  obtain ⟨u, k, hk, hu, rfl⟩ : ∃ u k, k < 9 ∧ u < 16 ∧ a = 9 * u + k := ⟨a / 9, a % 9, by omega, by omega, by omega⟩
  by_cases h8 : k < 8
  · rw [if_pos (show (9 * u + k) % 9 < 8 by omega)]
    interval_cases u
    all_goals
      repeat rw [if_neg (by omega)]
      rw [if_pos (by omega)]
      exact key _ _ (by omega)
  · rw [if_neg (show ¬ (9 * u + k) % 9 < 8 by omega)]
    repeat rw [if_neg (by omega)]

/-- The stack of sixteen slabs at an index. -/
theorem stack_apply [Facts] (T : ℕ → Slab) (k : Fin 128) (l : Fin 128) :
    stack (T 0) (T 1) (T 2) (T 3) (T 4) (T 5) (T 6) (T 7) (T 8) (T 9) (T 10) (T 11) (T 12) (T 13) (T 14) (T 15) (ix2 k l)
      = T (k.val / 8) (ix2 ⟨k.val % 8, Nat.mod_lt _ (by decide)⟩ l) :=
  concatenate_ofFn_apply (t := S128x128) (s₁ := S8x128) 0 (fun n : Fin 16 => T n.val)
    concatenates_S8x128_S8x128_S8x128_S8x128_S8x128_S8x128_S8x128_S8x128_S8x128_S8x128_S8x128_S8x128_S8x128_S8x128_S8x128_S8x128_S128x128_d0
    rfl 8 rfl (ix2 k l) ⟨k.val / 8, by have := k.isLt; omega⟩ rfl (ix2 ⟨k.val % 8, Nat.mod_lt _ (by decide)⟩ l) rfl
    (fun b hb => match b with | ⟨0, _⟩ => absurd rfl hb | ⟨1, _⟩ => rfl)

/-- The slab of a scratch array at eight rows from row `9 * u`. -/
abbrev T (A : Scr) (u : ℕ) : Slab := fun j => atS A (9 * u + (j 0).val) (j 1).val

/-- Eight rows of the transposed stack. -/
theorem piece_eq [Facts] (A : Scr) (u : ℕ) (hu : u < 16) (h : S128x128.Slices ![8 * u, 0] S8x128) :
    extractStridedSlice S8x128 ![8 * u, 0] (transpose S128x128 [1, 0] (stack (T A 0) (T A 1) (T A 2) (T A 3) (T A 4) (T A 5) (T A 6) (T A 7) (T A 8) (T A 9) (T A 10) (T A 11) (T A 12) (T A 13) (T A 14) (T A 15)) transposes_S128x128_p1_0_S128x128 : IVec S128x128 32) h
      = slab (fun s l => tr A (8 * u + s) l) := by
  funext j
  obtain ⟨s, l, rfl⟩ : ∃ s l, j = ix2 s l := ⟨j 0, j 1, eq_ix2 j⟩
  have hk : 8 * u + s.val < 128 := by have := s.isLt; omega
  refine (slice2_axis0_apply (8 * u) _ h s l ⟨8 * u + s.val, hk⟩ rfl).trans ?_
  refine (transpose_ix2_apply _ transposes_S128x128_p1_0_S128x128 ⟨8 * u + s.val, hk⟩ l).trans ?_
  exact stack_apply (T A) l ⟨8 * u + s.val, hk⟩

/-- `mid`: the words of the first scratch array, transposed, to the second. -/
theorem wp_mid (Q : PUnit → sProp 𝕄) (m6 m7 : Memref sig .tc .vmem S144x128 .i32) (X Y : Scr) (K : PUnit → Prog (TpuEff nD τ sig (Elt F) Λ₀ .tc) PUnit) :
    iprop(owns (Val := Elt F) (c : Thread nD τ) m6 fullShare X ∗ owns (Val := Elt F) (c : Thread nD τ) m7 fullShare Y : sProp 𝕄)
      ⊢ iprop((owns (Val := Elt F) (c : Thread nD τ) m6 fullShare X ∗ owns (Val := Elt F) (c : Thread nD τ) m7 fullShare (putM Y (tr X))
          -∗ wp frame (wpE (defs₀ (F := F)) Variants.none c none) E (K ⟨⟩) Q)
        -∗ wp frame (wpE (defs₀ (F := F)) Variants.none c none) E (mid m6 m7 >>= K) Q) := by
  rw [← putS_sixteen]
  iintro ⟨H6, H7⟩ Hk
  unfold mid
  simp only [bind_assoc]
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_ldS c E Q m6 _ _ X _) $$ H6
  iintro H6
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply (wp_stS c E Q m7 _ _ _ _ _) $$ H7
  iintro H7
  iapply Hk
  isplitl [H6]
  · iexact H6
  rw [show (slab fun s l => tr X (0 + s) l) = _ from (piece_eq X 0 (by decide) slices_S128x128_o0_0_S8x128).symm,
    show (slab fun s l => tr X (8 + s) l) = _ from (piece_eq X 1 (by decide) slices_S128x128_o8_0_S8x128).symm,
    show (slab fun s l => tr X (16 + s) l) = _ from (piece_eq X 2 (by decide) slices_S128x128_o16_0_S8x128).symm,
    show (slab fun s l => tr X (24 + s) l) = _ from (piece_eq X 3 (by decide) slices_S128x128_o24_0_S8x128).symm,
    show (slab fun s l => tr X (32 + s) l) = _ from (piece_eq X 4 (by decide) slices_S128x128_o32_0_S8x128).symm,
    show (slab fun s l => tr X (40 + s) l) = _ from (piece_eq X 5 (by decide) slices_S128x128_o40_0_S8x128).symm,
    show (slab fun s l => tr X (48 + s) l) = _ from (piece_eq X 6 (by decide) slices_S128x128_o48_0_S8x128).symm,
    show (slab fun s l => tr X (56 + s) l) = _ from (piece_eq X 7 (by decide) slices_S128x128_o56_0_S8x128).symm,
    show (slab fun s l => tr X (64 + s) l) = _ from (piece_eq X 8 (by decide) slices_S128x128_o64_0_S8x128).symm,
    show (slab fun s l => tr X (72 + s) l) = _ from (piece_eq X 9 (by decide) slices_S128x128_o72_0_S8x128).symm,
    show (slab fun s l => tr X (80 + s) l) = _ from (piece_eq X 10 (by decide) slices_S128x128_o80_0_S8x128).symm,
    show (slab fun s l => tr X (88 + s) l) = _ from (piece_eq X 11 (by decide) slices_S128x128_o88_0_S8x128).symm,
    show (slab fun s l => tr X (96 + s) l) = _ from (piece_eq X 12 (by decide) slices_S128x128_o96_0_S8x128).symm,
    show (slab fun s l => tr X (104 + s) l) = _ from (piece_eq X 13 (by decide) slices_S128x128_o104_0_S8x128).symm,
    show (slab fun s l => tr X (112 + s) l) = _ from (piece_eq X 14 (by decide) slices_S128x128_o112_0_S8x128).symm,
    show (slab fun s l => tr X (120 + s) l) = _ from (piece_eq X 15 (by decide) slices_S128x128_o120_0_S8x128).symm]
  iexact H7

/-! ## The last half step -/

/-- The output block with the bytes of the words `g h s l` at rows `j + s` and columns `q + 128 * h + l`. -/
def putH (X : Out) (j q : ℕ) (g : ℕ → ℕ → ℕ → BitVec 32) : Out := fun y =>
  if (j ≤ (y 1).val ∧ (y 1).val - j < 8) ∧ (q ≤ (y 3).val ∧ (y 3).val - q < 1024) then
    byteOf (y 2).val (g (((y 3).val - q) / 128) ((y 1).val - j) (((y 3).val - q) % 128)) else X y

/-- A slab's bytes stored to the output block, at an index. -/
theorem putO_slab (X : Out) (r o : ℕ) (g : ℕ → ℕ → BitVec 32) (y : S1x16x4x18432.Idx) :
    putO X r o (slab g) y = if (r ≤ (y 1).val ∧ (y 1).val - r < 8) ∧ (o ≤ (y 3).val ∧ (y 3).val - o < 128) then
      byteOf (y 2).val (g ((y 1).val - r) ((y 3).val - o)) else X y := by
  unfold putO slab
  split_ifs <;> rfl

/-- Eight slabs stored to the output block at eight groups of 128 columns. -/
theorem putO_eight (X : Out) (j q : ℕ) (g : ℕ → ℕ → ℕ → BitVec 32) :
    putO (putO (putO (putO (putO (putO (putO (putO X j q (slab (g 0))) j (q + 128) (slab (g 1))) j (q + 256) (slab (g 2))) j (q + 384) (slab (g 3)))
      j (q + 512) (slab (g 4))) j (q + 640) (slab (g 5))) j (q + 768) (slab (g 6))) j (q + 896) (slab (g 7)) = putH X j q g := by
  funext y
  simp only [putO_slab, putH]
  generalize (y 1).val = a
  generalize (y 3).val = p
  have key : ∀ (k k' s s' l l' : ℕ), k = k' → s = s' → l = l' → byteOf (y 2).val (g k s l) = byteOf (y 2).val (g k' s' l') := by
    rintro k _ s _ l _ rfl rfl rfl; rfl
  by_cases hA : (j ≤ a ∧ a - j < 8) ∧ (q ≤ p ∧ p - q < 1024)
  · rw [if_pos hA]
    obtain ⟨⟨h1, h2⟩, h3, h4⟩ := hA
    obtain ⟨k, l, hl, hk, rfl⟩ : ∃ k l, l < 128 ∧ k < 8 ∧ p = q + 128 * k + l := ⟨(p - q) / 128, (p - q) % 128, by omega, by omega, by omega⟩
    interval_cases k
    all_goals
      repeat rw [if_neg (by omega)]
      rw [if_pos (by omega)]
      exact key _ _ _ _ _ _ (by omega) rfl (by omega)
  · rw [if_neg hA]
    by_cases hB : j ≤ a ∧ a - j < 8
    · repeat rw [if_neg (by omega)]
    · rw [if_neg (fun h => hB h.1), if_neg (fun h => hB h.1), if_neg (fun h => hB h.1), if_neg (fun h => hB h.1), if_neg (fun h => hB h.1),
        if_neg (fun h => hB h.1), if_neg (fun h => hB h.1), if_neg (fun h => hB h.1)]

/-- `halfO`: eight slabs of the second scratch array, from rows `r` to `r + 7`, transposed to the output block. -/
theorem wp_halfO (Q : PUnit → sProp 𝕄) (m7 : Memref sig .tc .vmem S144x128 .i32) (m4 : Memref sig .tc .vmem S1x16x4x18432 .i8) (h4 : m4.IsWhole) (j q r : ℕ) (hj : j ≤ 8) (hq : q ≤ 17408) (hr : r ≤ 73)
    (r0 r1 r2 r3 r4 r5 r6 r7 o0 o1 o2 o3 o4 o5 o6 o7 : ℕ) (R) (H) (Z : Scr) (X : Out) (K : PUnit → Prog (TpuEff nD τ sig (Elt F) Λ₀ .tc) PUnit) :
    iprop(owns (Val := Elt F) (c : Thread nD τ) m7 fullShare Z ∗ owns (Val := Elt F) (c : Thread nD τ) m4 fullShare X : sProp 𝕄)
      ⊢ iprop((owns (Val := Elt F) (c : Thread nD τ) m7 fullShare Z
            ∗ owns (Val := Elt F) (c : Thread nD τ) m4 fullShare (putH X j q (fun f s l => nibF f (fun g => atS Z (r + g + 9 * s) l)))
          -∗ wp frame (wpE (defs₀ (F := F)) Variants.none c none) E (K ⟨⟩) Q)
        -∗ wp frame (wpE (defs₀ (F := F)) Variants.none c none) E (halfO m7 m4 h4 j q r hj hq hr r0 r1 r2 r3 r4 r5 r6 r7 o0 o1 o2 o3 o4 o5 o6 o7 R H >>= K) Q) := by
  obtain ⟨rfl, rfl, rfl, rfl, rfl, rfl, rfl, rfl⟩ := H
  obtain ⟨rfl, rfl, rfl, rfl, rfl, rfl, rfl, rfl⟩ := R
  have hn : ∀ (a b' c' : Bool), _ = _ := fun a b' c' => nib_slab a b' c' (fun g s l => atS Z (r0 + g + 9 * s) l)
  rw [← putO_eight]
  iintro ⟨H7, H4⟩ Hk
  unfold halfO
  simp only [bind_assoc]
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_ldT c E Q m7 _ _ Z _) $$ H7
  iintro H7
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply (wp_stO c E Q m4 h4 _ _ _ _ _ _ _) $$ H4
  iintro H4
  iapply Hk
  isplitl [H7]
  · iexact H7
  rw [show (slab fun s l => nibF 0 (fun g => atS Z (r0 + g + 9 * s) l)) = _ from (hn false false false).symm,
    show (slab fun s l => nibF 1 (fun g => atS Z (r0 + g + 9 * s) l)) = _ from (hn false false true).symm,
    show (slab fun s l => nibF 2 (fun g => atS Z (r0 + g + 9 * s) l)) = _ from (hn false true false).symm,
    show (slab fun s l => nibF 3 (fun g => atS Z (r0 + g + 9 * s) l)) = _ from (hn false true true).symm,
    show (slab fun s l => nibF 4 (fun g => atS Z (r0 + g + 9 * s) l)) = _ from (hn true false false).symm,
    show (slab fun s l => nibF 5 (fun g => atS Z (r0 + g + 9 * s) l)) = _ from (hn true false true).symm,
    show (slab fun s l => nibF 6 (fun g => atS Z (r0 + g + 9 * s) l)) = _ from (hn true true false).symm,
    show (slab fun s l => nibF 7 (fun g => atS Z (r0 + g + 9 * s) l)) = _ from (hn true true true).symm]
  iexact H4

end

end Cert.KernelIdeal.Own
-- ==== Proof.Unit.lean ====
/-
  What a unit leaves in the output block (`wp_unitL`): its 1024 columns at their final contents, `outW`. So the body
  leaves the whole output block at `outW` of the input block, and the scales copied (`wp_body`).
-/
module

public import proofs.«01_k».proof.Proof.Halves

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- THE OUTPUT BLOCK as a function of the input block `W`: at row `j`, byte `b` and column `k`, byte `b` of the word whose nibble `g`
    is nibble `k % 8` of the input block's word at row `k / 8` and lane `8 * j + g`. -/
def outW (W : Blk) : Out := fun y =>
  byteOf (y 2).val (nibF ((y 3).val % 8) (fun g => atW W ((y 3).val / 8) (8 * (y 1).val + g)))

/-- An output block with the 1024 columns from column `q` at their final contents. -/
def putU (X : Out) (W : Blk) (q : ℕ) : Out := fun y =>
  if q ≤ (y 3).val ∧ (y 3).val - q < 1024 then outW W y else X y

/-! ## The contents of the scratch arrays -/

/-- A row that `putA` writes, read. -/
theorem atS_putA_in (X : Scr) (r : ℕ) (g : ℕ → ℕ → ℕ → BitVec 32) (a l : ℕ) (h : a < 144 ∧ l < 128)
    (hA : r ≤ a ∧ a - r < 72 ∧ (a - r) % 9 < 8) : atS (putA X r g) a l = g ((a - r) % 9) ((a - r) / 9) l := by
  unfold atS
  rw [dif_pos h]
  exact if_pos hA

/-- A row that it does not write. -/
theorem atS_putA_out (X : Scr) (r : ℕ) (g : ℕ → ℕ → ℕ → BitVec 32) (a l : ℕ) (h : a < 144 ∧ l < 128)
    (hA : ¬ (r ≤ a ∧ a - r < 72 ∧ (a - r) % 9 < 8)) : atS (putA X r g) a l = atS X a l := by
  unfold atS
  rw [dif_pos h, dif_pos h]
  exact if_neg hA

/-- A row that `putM` writes, read. -/
theorem atS_putM (Y : Scr) (g : ℕ → ℕ → BitVec 32) (a l : ℕ) (h : a < 144 ∧ l < 128) (hA : a % 9 < 8) :
    atS (putM Y g) a l = g (8 * (a / 9) + a % 9) l := by
  unfold atS
  rw [dif_pos h]
  exact if_pos hA

/-- What the two first half steps of a unit write. -/
abbrev gA (W : Blk) (b f s l : ℕ) : BitVec 32 := nibF f (fun h => atW W (b + 16 * h + s) l)

/-- The first scratch array after both first half steps: row `9 * u + f`, lane `l`. -/
theorem scr1 (W : Blk) (X : Scr) (b u f l : ℕ) (hu : u < 16) (hf : f < 8) (hl : l < 128) :
    atS (putA (putA X 0 (gA W b)) 72 (gA W (b + 8))) (9 * u + f) l = nibF f (fun h => atW W (b + 16 * h + u) l) := by
  by_cases h : u < 8
  · rw [atS_putA_out _ _ _ _ _ (by omega) (by omega), atS_putA_in _ _ _ _ _ (by omega) (by omega)]
    rw [show (9 * u + f - 0) % 9 = f by omega, show (9 * u + f - 0) / 9 = u by omega]
  · rw [atS_putA_in _ _ _ _ _ (by omega) (by omega)]
    rw [show (9 * u + f - 72) % 9 = f by omega, show (9 * u + f - 72) / 9 = u - 8 by omega]
    refine nibF_congr _ (fun k _ => ?_)
    rw [show b + 8 + 16 * k + (u - 8) = b + 16 * k + u by omega]

/-- The second scratch array after the middle step: row `9 * s + g`, lane `l`. -/
theorem scr2 (W : Blk) (X Y : Scr) (b s g l : ℕ) (hs : s < 16) (hg : g < 8) (hl : l < 128) :
    atS (putM Y (tr (putA (putA X 0 (gA W b)) 72 (gA W (b + 8))))) (9 * s + g) l
      = nibF (l % 8) (fun h => atW W (b + 16 * h + l / 8) (8 * s + g)) := by
  rw [atS_putM _ _ _ _ (by omega) (by omega), show (9 * s + g) / 9 = s by omega, show (9 * s + g) % 9 = g by omega]
  unfold tr
  exact scr1 W X b (l / 8) (l % 8) (8 * s + g) (by omega) (by omega) (by omega)

/-- What the last half steps write is the final contents. -/
theorem word_eq (W : Blk) (X Y : Scr) (b s t : ℕ) (hs : s < 16) (ht : t < 1024) (v : ℕ → ℕ)
    (hv : ∀ g, v g = 9 * s + g) :
    nibF (t / 128) (fun g => atS (putM Y (tr (putA (putA X 0 (gA W b)) 72 (gA W (b + 8))))) (v g) (t % 128))
      = nibF ((8 * b + t) % 8) (fun g => atW W ((8 * b + t) / 8) (8 * s + g)) := by
  rw [nibF_congr (t / 128) (g' := fun g => nibF (t % 128 % 8) (fun h => atW W (b + 16 * h + t % 128 / 8) (8 * s + g))) (fun g hg => by
    rw [hv, scr2 W X Y b s g (t % 128) hs hg (by omega)])]
  rw [nibF_nibF (t % 128 % 8) (t / 128) (by omega) (fun h g => atW W (b + 16 * h + t % 128 / 8) (8 * s + g))]
  rw [show t % 128 % 8 = (8 * b + t) % 8 by omega, show b + 16 * (t / 128) + t % 128 / 8 = (8 * b + t) / 8 by omega]

/-- The output block after both last half steps. -/
theorem out_eq (W : Blk) (X Y : Scr) (O : Out) (b : ℕ) (Z : Scr) (hZ : Z = putM Y (tr (putA (putA X 0 (gA W b)) 72 (gA W (b + 8))))) :
    putH (putH O 0 (8 * b) (fun f s l => nibF f (fun g => atS Z (0 + g + 9 * s) l))) 8 (8 * b) (fun f s l => nibF f (fun g => atS Z (72 + g + 9 * s) l))
      = putU O W (8 * b) := by
  subst hZ
  funext y
  unfold putH putU outW
  have h1 : (y 1).val < 16 := (y 1).isLt
  dsimp only
  generalize (y 1).val = s at h1 ⊢
  generalize (y 3).val = p
  by_cases hp : 8 * b ≤ p ∧ p - 8 * b < 1024
  · obtain ⟨t, ht, rfl⟩ : ∃ t, t < 1024 ∧ p = 8 * b + t := ⟨p - 8 * b, hp.2, by omega⟩
    rw [if_pos hp, show 8 * b + t - 8 * b = t by omega]
    by_cases hs : 8 ≤ s
    · rw [if_pos (by omega)]
      exact congrArg (byteOf _) (word_eq W X Y b s t h1 ht _ (fun g => by omega))
    · rw [if_neg (by omega), if_pos (by omega)]
      exact congrArg (byteOf _) (word_eq W X Y b s t h1 ht _ (fun g => by omega))
  · rw [if_neg hp, if_neg (fun h => hp h.2), if_neg (fun h => hp h.2)]

/-- The 18 groups of 1024 columns are the whole block. -/
theorem putU_all (X : Out) (W : Blk) :
    (putU (putU (putU (putU (putU (putU (putU (putU (putU (putU (putU (putU (putU (putU (putU (putU (putU (putU X W 0) W 1024) W 2048) W 3072) W 4096) W 5120) W 6144) W 7168) W 8192) W 9216) W 10240) W 11264) W 12288) W 13312) W 14336) W 15360) W 16384) W 17408)
      = outW W := by
  funext y
  unfold putU
  have h3 : (y 3).val < 18432 := (y 3).isLt
  generalize (y 3).val = p at h3 ⊢
  obtain ⟨k, t, ht, hk, rfl⟩ : ∃ k t, t < 1024 ∧ k < 18 ∧ p = 1024 * k + t := ⟨p / 1024, p % 1024, by omega, by omega, by omega⟩
  interval_cases k
  all_goals
    repeat rw [if_neg (by omega)]
    rw [if_pos (by omega)]

/-! ## The unit and the body -/

section
variable [Facts] (c : Dev nD) (E : Set ℕ)

/-- `unitL`: 1024 columns of the output block at their final contents, the scratch arrays at some contents. -/
theorem wp_unitL (Q : PUnit → sProp 𝕄) (m2 : Memref sig .tc .vmem S1x2304x128 .i32) (m4 : Memref sig .tc .vmem S1x16x4x18432 .i8) (h4 : m4.IsWhole) (m6 m7 : Memref sig .tc .vmem S144x128 .i32)
    (b p q : ℕ) (hb : b ≤ 2176) (hp : p ≤ 2184) (hq : q ≤ 17408) (o0 o1 o2 o3 o4 o5 o6 o7 p0 p1 p2 p3 p4 p5 p6 p7 q0 q1 q2 q3 q4 q5 q6 q7 : ℕ)
    (H) (P) (L) (epb : p = b + 8) (eqb : q = 8 * b) (W : Blk) (O : Out) (X Y : Scr) (K : PUnit → Prog (TpuEff nD τ sig (Elt F) Λ₀ .tc) PUnit) :
    iprop(owns (Val := Elt F) (c : Thread nD τ) m2 fullShare W ∗ owns (Val := Elt F) (c : Thread nD τ) m4 fullShare O
        ∗ owns (Val := Elt F) (c : Thread nD τ) m6 fullShare X ∗ owns (Val := Elt F) (c : Thread nD τ) m7 fullShare Y : sProp 𝕄)
      ⊢ iprop((owns (Val := Elt F) (c : Thread nD τ) m2 fullShare W ∗ owns (Val := Elt F) (c : Thread nD τ) m4 fullShare (putU O W q)
            ∗ (∃ d : Scr, owns (Val := Elt F) (c : Thread nD τ) m6 fullShare d) ∗ (∃ d : Scr, owns (Val := Elt F) (c : Thread nD τ) m7 fullShare d)
          -∗ wp frame (wpE (defs₀ (F := F)) Variants.none c none) E (K ⟨⟩) Q)
        -∗ wp frame (wpE (defs₀ (F := F)) Variants.none c none) E
          (unitL m2 m4 h4 m6 m7 b p q hb hp hq o0 o1 o2 o3 o4 o5 o6 o7 p0 p1 p2 p3 p4 p5 p6 p7 q0 q1 q2 q3 q4 q5 q6 q7 H P L >>= K) Q) := by
  subst epb eqb
  rw [← out_eq W X Y O b _ rfl]
  iintro ⟨H2, H4, H6, H7⟩ Hk
  unfold unitL
  simp only [bind_assoc]
  iapply (wp_halfA c E Q m2 m6 b 0 _ _ _ _ _ _ _ _ _ _ _ _ _ _ _ _ _ _ _ _ W X _) $$ [H2 H6]
  · isplitl [H2]; · iexact H2
    iexact H6
  iintro ⟨H2, H6⟩
  iapply (wp_halfA c E Q m2 m6 (b + 8) 72 _ _ _ _ _ _ _ _ _ _ _ _ _ _ _ _ _ _ _ _ W _ _) $$ [H2 H6]
  · isplitl [H2]; · iexact H2
    iexact H6
  iintro ⟨H2, H6⟩
  iapply (wp_mid c E Q m6 m7 _ Y _) $$ [H6 H7]
  · isplitl [H6]; · iexact H6
    iexact H7
  iintro ⟨H6, H7⟩
  iapply (wp_halfO c E Q m7 m4 h4 0 (8 * b) 0 _ _ _ _ _ _ _ _ _ _ _ _ _ _ _ _ _ _ _ _ _ _ O _) $$ [H7 H4]
  · isplitl [H7]; · iexact H7
    iexact H4
  iintro ⟨H7, H4⟩
  iapply (wp_halfO c E Q m7 m4 h4 8 (8 * b) 72 _ _ _ _ _ _ _ _ _ _ _ _ _ _ _ _ _ _ _ _ _ _ _ _) $$ [H7 H4]
  · isplitl [H7]; · iexact H7
    iexact H4
  iintro ⟨H7, H4⟩
  iapply Hk
  isplitl [H2]; · iexact H2
  isplitl [H4]; · iexact H4
  isplitl [H6]; · iexists _; iexact H6
  iexists _; iexact H7

/-- The body: the output block at `outW` of the input block, the output scales a copy of the input's. -/
theorem wp_body (K : PUnit → sProp 𝕄) (i : grid0.Coords) (m2 : Memref sig .tc .vmem S1x2304x128 .i32) (h2 : m2.IsWhole) (m3 : Memref sig .tc .vmem S1x144x128 .f32) (h3 : m3.IsWhole)
    (m4 : Memref sig .tc .vmem S1x16x4x18432 .i8) (h4 : m4.IsWhole) (m5 : Memref sig .tc .vmem S1x144x128 .f32) (h5 : m5.IsWhole)
    (m6 : Memref sig .tc .vmem S144x128 .i32) (h6 : m6.IsWhole) (m7 : Memref sig .tc .vmem S144x128 .i32) (h7 : m7.IsWhole)
    (W : Blk) (x1 : Vec F S1x144x128 .f32) :
    iprop(owns (Val := Elt F) (c : Thread nD τ) m2 fullShare W ∗ owns (Val := Elt F) (c : Thread nD τ) m3 fullShare x1
        ∗ (∃ d : Out, owns (Val := Elt F) (c : Thread nD τ) m4 fullShare d) ∗ (∃ d, owns (Val := Elt F) (c : Thread nD τ) m5 fullShare d)
        ∗ (∃ d : Scr, owns (Val := Elt F) (c : Thread nD τ) m6 fullShare d) ∗ (∃ d : Scr, owns (Val := Elt F) (c : Thread nD τ) m7 fullShare d)
        ∗ (iprop(owns (Val := Elt F) (c : Thread nD τ) m2 fullShare W ∗ owns (Val := Elt F) (c : Thread nD τ) m3 fullShare x1
          ∗ owns (Val := Elt F) (c : Thread nD τ) m4 fullShare (outW W) ∗ owns (Val := Elt F) (c : Thread nD τ) m5 fullShare x1
          ∗ (∃ d : Scr, owns (Val := Elt F) (c : Thread nD τ) m6 fullShare d) ∗ (∃ d : Scr, owns (Val := Elt F) (c : Thread nD τ) m7 fullShare d)) -∗ K ⟨⟩) : sProp 𝕄)
      ⊢ wp frame (wpE (defs₀ (F := F)) Variants.none c none) E (body i m2 h2 m3 h3 m4 h4 m5 h5 m6 h6 m7 h7) K := by
  iintro ⟨H2, H3, ⟨%X, H4⟩, ⟨%d5, H5⟩, ⟨%d6, H6⟩, ⟨%d7, H7⟩, Hk⟩
  unfold body
  have hidx : ∀ j : S1x144x128.Idx, (Rect.unit (s := S1x144x128) ![0, 0, 0] S1x144x128.size inb_S1x144x128_S1x144x128_0_0_0).toLoadRect.idx j = j := by
    intro j
    funext a
    match a with
    | ⟨0, _⟩ => exact Fin.ext (by show 0 + 1 * (j 0).val = (j 0).val; omega)
    | ⟨1, _⟩ => exact Fin.ext (by show 0 + 1 * (j 1).val = (j 1).val; omega)
    | ⟨2, _⟩ => exact Fin.ext (by show 0 + 1 * (j 2).val = (j 2).val; omega)
  iapply (owns_load c E K m3 _ (View.loadsAt_vmem h_S1x144x128) x1 _) $$ H3
  iintro H3
  iapply (owns_load c E K m5 _ (View.loadsAt_vmem h_S1x144x128) d5 _) $$ H5
  iintro H5
  iapply (owns_store c E K m5 (Rect.unit (s := S1x144x128) ![0, 0, 0] S1x144x128.size inb_S1x144x128_S1x144x128_0_0_0) _ _ _ d5 x1 (fun j => rfl) (fun y hy => absurd (hidx y) (hy y)) _) $$ H5
  iintro H5
  iapply (wp_unitL c E K m2 m4 h4 m6 m7 0 8 0 (Nat.le_of_ble_eq_true rfl) (Nat.le_of_ble_eq_true rfl) (Nat.le_of_ble_eq_true rfl) 0 16 32 48 64 80 96 112 8 24 40 56 72 88 104 120 0 128 256 384 512 640 768 896 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 128 136 1024 (Nat.le_of_ble_eq_true rfl) (Nat.le_of_ble_eq_true rfl) (Nat.le_of_ble_eq_true rfl) 128 144 160 176 192 208 224 240 136 152 168 184 200 216 232 248 1024 1152 1280 1408 1536 1664 1792 1920 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 256 264 2048 (Nat.le_of_ble_eq_true rfl) (Nat.le_of_ble_eq_true rfl) (Nat.le_of_ble_eq_true rfl) 256 272 288 304 320 336 352 368 264 280 296 312 328 344 360 376 2048 2176 2304 2432 2560 2688 2816 2944 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 384 392 3072 (Nat.le_of_ble_eq_true rfl) (Nat.le_of_ble_eq_true rfl) (Nat.le_of_ble_eq_true rfl) 384 400 416 432 448 464 480 496 392 408 424 440 456 472 488 504 3072 3200 3328 3456 3584 3712 3840 3968 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 512 520 4096 (Nat.le_of_ble_eq_true rfl) (Nat.le_of_ble_eq_true rfl) (Nat.le_of_ble_eq_true rfl) 512 528 544 560 576 592 608 624 520 536 552 568 584 600 616 632 4096 4224 4352 4480 4608 4736 4864 4992 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 640 648 5120 (Nat.le_of_ble_eq_true rfl) (Nat.le_of_ble_eq_true rfl) (Nat.le_of_ble_eq_true rfl) 640 656 672 688 704 720 736 752 648 664 680 696 712 728 744 760 5120 5248 5376 5504 5632 5760 5888 6016 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 768 776 6144 (Nat.le_of_ble_eq_true rfl) (Nat.le_of_ble_eq_true rfl) (Nat.le_of_ble_eq_true rfl) 768 784 800 816 832 848 864 880 776 792 808 824 840 856 872 888 6144 6272 6400 6528 6656 6784 6912 7040 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 896 904 7168 (Nat.le_of_ble_eq_true rfl) (Nat.le_of_ble_eq_true rfl) (Nat.le_of_ble_eq_true rfl) 896 912 928 944 960 976 992 1008 904 920 936 952 968 984 1000 1016 7168 7296 7424 7552 7680 7808 7936 8064 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1024 1032 8192 (Nat.le_of_ble_eq_true rfl) (Nat.le_of_ble_eq_true rfl) (Nat.le_of_ble_eq_true rfl) 1024 1040 1056 1072 1088 1104 1120 1136 1032 1048 1064 1080 1096 1112 1128 1144 8192 8320 8448 8576 8704 8832 8960 9088 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1152 1160 9216 (Nat.le_of_ble_eq_true rfl) (Nat.le_of_ble_eq_true rfl) (Nat.le_of_ble_eq_true rfl) 1152 1168 1184 1200 1216 1232 1248 1264 1160 1176 1192 1208 1224 1240 1256 1272 9216 9344 9472 9600 9728 9856 9984 10112 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1280 1288 10240 (Nat.le_of_ble_eq_true rfl) (Nat.le_of_ble_eq_true rfl) (Nat.le_of_ble_eq_true rfl) 1280 1296 1312 1328 1344 1360 1376 1392 1288 1304 1320 1336 1352 1368 1384 1400 10240 10368 10496 10624 10752 10880 11008 11136 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1408 1416 11264 (Nat.le_of_ble_eq_true rfl) (Nat.le_of_ble_eq_true rfl) (Nat.le_of_ble_eq_true rfl) 1408 1424 1440 1456 1472 1488 1504 1520 1416 1432 1448 1464 1480 1496 1512 1528 11264 11392 11520 11648 11776 11904 12032 12160 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1536 1544 12288 (Nat.le_of_ble_eq_true rfl) (Nat.le_of_ble_eq_true rfl) (Nat.le_of_ble_eq_true rfl) 1536 1552 1568 1584 1600 1616 1632 1648 1544 1560 1576 1592 1608 1624 1640 1656 12288 12416 12544 12672 12800 12928 13056 13184 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1664 1672 13312 (Nat.le_of_ble_eq_true rfl) (Nat.le_of_ble_eq_true rfl) (Nat.le_of_ble_eq_true rfl) 1664 1680 1696 1712 1728 1744 1760 1776 1672 1688 1704 1720 1736 1752 1768 1784 13312 13440 13568 13696 13824 13952 14080 14208 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1792 1800 14336 (Nat.le_of_ble_eq_true rfl) (Nat.le_of_ble_eq_true rfl) (Nat.le_of_ble_eq_true rfl) 1792 1808 1824 1840 1856 1872 1888 1904 1800 1816 1832 1848 1864 1880 1896 1912 14336 14464 14592 14720 14848 14976 15104 15232 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 1920 1928 15360 (Nat.le_of_ble_eq_true rfl) (Nat.le_of_ble_eq_true rfl) (Nat.le_of_ble_eq_true rfl) 1920 1936 1952 1968 1984 2000 2016 2032 1928 1944 1960 1976 1992 2008 2024 2040 15360 15488 15616 15744 15872 16000 16128 16256 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 2048 2056 16384 (Nat.le_of_ble_eq_true rfl) (Nat.le_of_ble_eq_true rfl) (Nat.le_of_ble_eq_true rfl) 2048 2064 2080 2096 2112 2128 2144 2160 2056 2072 2088 2104 2120 2136 2152 2168 16384 16512 16640 16768 16896 17024 17152 17280 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  iapply (wp_unitL c E K m2 m4 h4 m6 m7 2176 2184 17408 (Nat.le_of_ble_eq_true rfl) (Nat.le_of_ble_eq_true rfl) (Nat.le_of_ble_eq_true rfl) 2176 2192 2208 2224 2240 2256 2272 2288 2184 2200 2216 2232 2248 2264 2280 2296 17408 17536 17664 17792 17920 18048 18176 18304 ⟨rfl, rfl, rfl, rfl, rfl, rfl, rfl, rfl⟩ ⟨rfl, rfl, rfl, rfl, rfl, rfl, rfl, rfl⟩ ⟨rfl, rfl, rfl, rfl, rfl, rfl, rfl, rfl⟩ rfl rfl W _ _ _ _) $$ [H2 H4 H6 H7]
  · isplitl [H2]; · iexact H2
    isplitl [H4]; · iexact H4
    isplitl [H6]; · iexact H6
    iexact H7
  iintro ⟨H2, H4, ⟨%d6, H6⟩, ⟨%d7, H7⟩⟩
  sl_step
  iapply Hk
  isplitl [H2]; · iexact H2
  isplitl [H3]; · iexact H3
  isplitl [H4]
  · rw [← putU_all X W]; iexact H4
  isplitl [H5]; · iexact H5
  isplitl [H6]; · iexists _; iexact H6
  iexists _; iexact H7

end

end Cert.KernelIdeal.Own
-- ==== Proof.Run.lean ====
/-
  The run of the whole program: what every staging buffer holds after each grid point (`dats`), the body at a point
  (`sound_body`, from `wp_body`), the run of the pipeline (`run_main_quiescent`) and the frame.
-/
module

public import proofs.«01_k».proof.Proof.Unit
public import Idealize.ShloMosaic.Lib.Claim

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

local notation "𝕄" => MT nD τ sig Unit (Elt Ideal) ℕ (UR sig nD τ) ℕ

variable (m : (ℓ : Loc nD τ sig) → Buf (Elt Ideal) ℓ) (ρ : Dev nD → PrngReg)

/-- What the body leaves in the output block at a point. -/
def out2 (c : Dev nD) (t : Fin cfg0.N) : Vec Ideal S1x16x4x18432 .i8 := outW (iblk m c 0 t)
/-- What the body leaves in the block of the scales at a point: the scales it was given. -/
def out3 (c : Dev nD) (t : Fin cfg0.N) : Vec Ideal S1x144x128 .f32 := iblk m c 1 t

/-- The printed body at a point is `body` there. -/
theorem at_eq (t : Fin cfg0.N) : bodyAt0 (F := Ideal) t = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) :=
  printed_eq _ _ _ _ _ _ _ _ _ _ _ _ _

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 m c t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 m c t := by dsimp only [dats]
theorem after0_3 (c : Dev nD) (t : Fin cfg0.N) : (dats m 0 c).after 3 t = out3 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold out2 out3
  rw [at_eq]
  iintro ⟨⟨⟨HS0, HS1⟩, Hg⟩, Ho, ⟨%d0, H0⟩, ⟨%d1, H1⟩, ⟨%d2, H2⟩, ⟨%d3, H3⟩⟩
  iapply (wp_body (F := Ideal) c Set.univ _ (grid0.coords t) _ _ _ _ _ _ _ _ _ _ _ _ (iblk m c 0 t) (iblk m c 1 t))
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Own

end
-- ==== Proof.RefVal.lean ====
/-
  What the reference computes, index by index: at member `b`, row `j`, column `k` and byte `y`, byte `y` of the word
  whose nibble `g` is nibble `k % 8` of the argument's word at row `k / 8` and column `8 * j + g`.
-/
module

public import proofs.«01_k».proof.Proof.NibVal
public import proofs.«01_k».proof.Proof.Gen.ReferenceIdeal
public import Idealize.ShloMosaic.Lib.Pipeline.Value
public import Idealize.ShloMosaic.Lib.ValueIdxCore
public import Idealize.ShloMosaic.PureOps.Reduce

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.ValueIdx
open Cert.KernelIdeal.Own (nibAt nibF nibF_congr)

/-- The words of the argument. -/
abbrev Wds := S3x2304x5120.Idx → BitVec 32

/-- The argument's word of member `b` at row `r` and column `l`. -/
def atA (w : Wds) (b r l : ℕ) : BitVec 32 :=
  if h : b < 3 ∧ r < 2304 ∧ l < 5120 then w (ix3 ⟨b, h.1⟩ ⟨r, h.2.1⟩ ⟨l, h.2.2⟩) else 0

/-- The result of the reference, by its indices. -/
def refVal (w : Wds) : S3x640x18432x4.Idx → BitVec 8 := fun y =>
  (nibF ((y 2).val % 8) (fun g => atA w (y 0).val ((y 2).val / 8) (8 * (y 1).val + g))).extractLsb' (8 * (y 3).val) 8

/-- The reference's words, the nibbles moved, as its program writes them. -/
def refRed (w : Wds) : S3x2304x640x8.Idx → BitVec 32 :=
  (Host.reduce IntOp.ori (Host.shli (andi (Host.shrui (broadcastInDim S3x2304x640x8x8 ![0, 1, 2, 3, 4] bcast_S3x2304x640x8x1_S3x2304x640x8x8_0_1_2_3_4 (broadcastInDim S3x2304x640x8x1 ![0, 1, 2, 3] bcast_S3x2304x640x8_S3x2304x640x8x1_0_1_2_3 (shapeCast S3x2304x640x8 (id w) shapeCasts_S3x2304x5120_S3x2304x640x8))) (broadcastInDim S3x2304x640x8x8 ![0, 1, 2, 3, 4] bcast_S1x1x1x1x8_S3x2304x640x8x8_0_1_2_3_4 (broadcastInDim S1x1x1x1x8 ![4] bcast_S8_S1x1x1x1x8_4 (muli (iotaInDim S8 32 0) (broadcastInDim S8 ![] bcast_S_S8 (constantI S_ 32 4#32)))))) (broadcastInDim S3x2304x640x8x8 ![] bcast_S_S3x2304x640x8x8 (constantI S_ 32 15#32))) (broadcastInDim S3x2304x640x8x8 ![0, 1, 2, 3, 4] bcast_S1x1x1x8x1_S3x2304x640x8x8_0_1_2_3_4 (broadcastInDim S1x1x1x8x1 ![3, 4] bcast_S8x1_S1x1x1x8x1_3_4 (broadcastInDim S8x1 ![0] bcast_S8_S8x1_0 (muli (iotaInDim S8 32 0) (broadcastInDim S8 ![] bcast_S_S8 (constantI S_ 32 4#32))))))) (constantI S_ 32 0#32) reducesTo_S3x2304x640x8x8_S3x2304x640x8_d3 h_S_)

/-- The reference's result, as its program writes it. -/
def refTerm (w : Wds) : S3x640x18432x4.Idx → BitVec 8 :=
  trunci 8 (andi (Host.shrui (broadcastInDim S3x640x18432x4 ![0, 1, 2, 3] bcast_S3x640x18432x1_S3x640x18432x4_0_1_2_3 (broadcastInDim S3x640x18432x1 ![0, 1, 2] bcast_S3x640x18432_S3x640x18432x1_0_1_2 (shapeCast S3x640x18432 (transpose S3x640x2304x8 [0, 2, 1, 3] (refRed w) transposes_S3x2304x640x8_S3x640x2304x8_0_2_1_3) shapeCasts_S3x640x2304x8_S3x640x18432))) (broadcastInDim S3x640x18432x4 ![0, 1, 2, 3] bcast_S1x1x1x4_S3x640x18432x4_0_1_2_3 (broadcastInDim S1x1x1x4 ![3] bcast_S4_S1x1x1x4_3 (muli (iotaInDim S4 32 0) (broadcastInDim S4 ![] bcast_S_S4 (constantI S_ 32 8#32)))))) (broadcastInDim S3x640x18432x4 ![] bcast_S_S3x640x18432x4 (constantI S_ 32 255#32))) natLt_8_32

/-- The eight words of a row joined by `or`. -/
theorem fold8 (f : Fin 8 → BitVec 32) : (Finset.univ : Finset (Fin 8)).fold IntOp.ori 0#32 f
    = f 0 ||| (f 1 ||| (f 2 ||| (f 3 ||| (f 4 ||| (f 5 ||| (f 6 ||| (f 7 ||| 0#32))))))) := rfl

theorem shr4 (x : BitVec 32) (f : Fin 8) : IntOp.shrui .host x (IntOp.muli (BitVec.ofNat 32 f.val) 4#32) = x >>> (4 * f.val) := by
  fin_cases f <;> rfl
theorem shl4 (x : BitVec 32) (f : Fin 8) : IntOp.shli .host x (IntOp.muli (BitVec.ofNat 32 f.val) 4#32) = x <<< (4 * f.val) := by
  fin_cases f <;> rfl
theorem shr8 (x : BitVec 32) (f : Fin 4) : IntOp.shrui .host x (IntOp.muli (BitVec.ofNat 32 f.val) 8#32) = x >>> (8 * f.val) := by
  fin_cases f <;> rfl

theorem byte_eq (x : BitVec 32) (n : ℕ) : ((x >>> n) &&& 255#32).setWidth 8 = x.extractLsb' n 8 := by
  apply BitVec.eq_of_getLsbD_eq
  intro i hi
  have h255 : (255#32 : BitVec 32).getLsbD i = true := by
    interval_cases i <;> simp
  simp [BitVec.getLsbD_setWidth, BitVec.getLsbD_extractLsb', h255, hi]
  intro _
  interval_cases i <;> simp

/-- The nibble `f` of the word at `8 * j + p`, moved to place `p`. -/
theorem red_at (w : Wds) (b : Fin 3) (r : Fin 2304) (j : Fin 640) (f : Fin 8) :
    refRed w (ix4 b r j f) = nibF f.val (fun g => atA w b.val r.val (8 * j.val + g)) := by
  unfold refRed
  rw [Host.reduce_eq_fold_single IntOp.ori _ _ _ (by decide : S3x2304x640x8x8.Reduces [3] S3x2304x640x8) h_S_]
  have key : ∀ p : Fin 8, ∀ i : S3x2304x640x8x8.Idx, i = ix5 b r j p f →
      (Host.shli (andi (Host.shrui (broadcastInDim S3x2304x640x8x8 ![0, 1, 2, 3, 4] bcast_S3x2304x640x8x1_S3x2304x640x8x8_0_1_2_3_4 (broadcastInDim S3x2304x640x8x1 ![0, 1, 2, 3] bcast_S3x2304x640x8_S3x2304x640x8x1_0_1_2_3 (shapeCast S3x2304x640x8 (id w) shapeCasts_S3x2304x5120_S3x2304x640x8))) (broadcastInDim S3x2304x640x8x8 ![0, 1, 2, 3, 4] bcast_S1x1x1x1x8_S3x2304x640x8x8_0_1_2_3_4 (broadcastInDim S1x1x1x1x8 ![4] bcast_S8_S1x1x1x1x8_4 (muli (iotaInDim S8 32 0) (broadcastInDim S8 ![] bcast_S_S8 (constantI S_ 32 4#32)))))) (broadcastInDim S3x2304x640x8x8 ![] bcast_S_S3x2304x640x8x8 (constantI S_ 32 15#32))) (broadcastInDim S3x2304x640x8x8 ![0, 1, 2, 3, 4] bcast_S1x1x1x8x1_S3x2304x640x8x8_0_1_2_3_4 (broadcastInDim S1x1x1x8x1 ![3, 4] bcast_S8x1_S1x1x1x8x1_3_4 (broadcastInDim S8x1 ![0] bcast_S8_S8x1_0 (muli (iotaInDim S8 32 0) (broadcastInDim S8 ![] bcast_S_S8 (constantI S_ 32 4#32))))))) i
        = nibAt f.val p.val (atA w b.val r.val (8 * j.val + p.val)) := by
    rintro p i rfl
    show IntOp.shli .host (IntOp.andi (IntOp.shrui .host _ _) _) _ = _
    rw [broadcastInDim_apply _ _ _ (ix5 b r j p f) (ix5 b r j p (0 : Fin 1)) (by intro a; fin_cases a <;> rfl),
      broadcastInDim_apply _ _ _ (ix5 b r j p (0 : Fin 1)) (ix4 b r j p) (by intro a; fin_cases a <;> rfl),
      shapeCast_apply _ _ (ix4 b r j p) (ix3 b r (⟨8 * j.val + p.val, by omega⟩ : Fin 5120)) (by
        rw [Shape.rowMajor_val_three, Shape.rowMajor_val_four]
        show (b.val * 2304 + r.val) * 5120 + (8 * j.val + p.val) = ((b.val * 2304 + r.val) * 640 + j.val) * 8 + p.val
        omega)]
    rw [broadcastInDim_apply _ _ _ (ix5 b r j p f) (ix5 (0 : Fin 1) (0 : Fin 1) (0 : Fin 1) (0 : Fin 1) f) (by intro a; fin_cases a <;> rfl),
      broadcastInDim_apply _ _ _ (ix5 (0 : Fin 1) (0 : Fin 1) (0 : Fin 1) (0 : Fin 1) f) (ix1 f) (by intro a; fin_cases a <;> rfl)]
    rw [broadcastInDim_apply _ _ _ (ix5 b r j p f) (ix5 (0 : Fin 1) (0 : Fin 1) (0 : Fin 1) p (0 : Fin 1)) (by intro a; fin_cases a <;> rfl),
      broadcastInDim_apply _ _ _ (ix5 (0 : Fin 1) (0 : Fin 1) (0 : Fin 1) p (0 : Fin 1)) (ix2 p (0 : Fin 1)) (by intro a; fin_cases a <;> rfl),
      broadcastInDim_apply _ _ _ (ix2 p (0 : Fin 1)) (ix1 p) (by intro a; fin_cases a <;> rfl)]
    show IntOp.shli .host (IntOp.andi (IntOp.shrui .host _ (IntOp.muli (BitVec.ofNat 32 f.val) 4#32)) 15#32) (IntOp.muli (BitVec.ofNat 32 p.val) 4#32) = _
    rw [shr4, shl4]
    unfold nibAt atA
    rw [dif_pos ⟨b.isLt, r.isLt, by omega⟩]
    rfl
  have hl : ∀ p : Fin 8, (by decide : S3x2304x640x8x8.Reduces [3] S3x2304x640x8).lift (ix4 b r j f) p = ix5 b r j p f := by
    intro p
    funext a
    apply Fin.ext
    fin_cases a <;> simp [Shape.Reduces.lift_val, Shape.Reduces.liftVal] <;> rfl
  refine (fold8 _).trans ?_
  simp only [Function.comp]
  rw [key 0 _ (hl 0), key 1 _ (hl 1), key 2 _ (hl 2), key 3 _ (hl 3), key 4 _ (hl 4), key 5 _ (hl 5), key 6 _ (hl 6), key 7 _ (hl 7)]
  unfold nibF
  simp only [BitVec.or_zero, BitVec.or_assoc]
  rfl

/-- The reference's result is `refVal`. -/
theorem refTerm_eq (w : Wds) : refTerm w = refVal w := by
  funext y
  obtain ⟨b, j, k, q, rfl⟩ : ∃ (b : Fin 3) (j : Fin 640) (k : Fin 18432) (q : Fin 4), y = ix4 b j k q := ⟨y 0, y 1, y 2, y 3, eq_ix4 y⟩
  unfold refTerm refVal
  show ((IntOp.andi (IntOp.shrui .host _ _) _ : BitVec 32)).setWidth 8 = _
  rw [broadcastInDim_apply _ _ _ (ix4 b j k q) (ix4 b j k (0 : Fin 1)) (by intro a; fin_cases a <;> rfl),
    broadcastInDim_apply _ _ _ (ix4 b j k (0 : Fin 1)) (ix3 b j k) (by intro a; fin_cases a <;> rfl),
    shapeCast_apply _ _ (ix3 b j k) (ix4 b j (⟨k.val / 8, by omega⟩ : Fin 2304) (⟨k.val % 8, by omega⟩ : Fin 8)) (by
      rw [Shape.rowMajor_val_three, Shape.rowMajor_val_four]
      show ((b.val * 640 + j.val) * 2304 + k.val / 8) * 8 + k.val % 8 = (b.val * 640 + j.val) * 18432 + k.val
      omega),
    transpose_apply _ _ _ (ix4 b j (⟨k.val / 8, by omega⟩ : Fin 2304) (⟨k.val % 8, by omega⟩ : Fin 8)) (ix4 b (⟨k.val / 8, by omega⟩ : Fin 2304) j (⟨k.val % 8, by omega⟩ : Fin 8)) (by intro a; fin_cases a <;> rfl),
    red_at]
  rw [broadcastInDim_apply _ _ _ (ix4 b j k q) (ix4 (0 : Fin 1) (0 : Fin 1) (0 : Fin 1) q) (by intro a; fin_cases a <;> rfl),
    broadcastInDim_apply _ _ _ (ix4 (0 : Fin 1) (0 : Fin 1) (0 : Fin 1) q) (ix1 q) (by intro a; fin_cases a <;> rfl)]
  show ((IntOp.andi (IntOp.shrui .host _ (IntOp.muli (BitVec.ofNat 32 q.val) 8#32)) 255#32 : BitVec 32)).setWidth 8 = _
  rw [shr8]
  exact byte_eq _ _

end Cert.ReferenceIdeal.Own

end
-- ==== Proof.Value.lean ====
/-
  What the two arrays that the pipeline writes hold at the end of the run (`final2`, `final3`): at member `b`, row `j`, byte `y`
  and column `k`, byte `y` of the word whose nibble `g` is nibble `k % 8` of the argument's word at row `k / 8` and column
  `8 * j + g`; and the scales, unchanged.
-/
module

public import proofs.«01_k».proof.Proof.Run
public import proofs.«01_k».proof.Proof.RefVal
public import Idealize.ShloMosaic.Lib.Pipeline.ValueKit

@[expose] public section

set_option maxRecDepth 16384

noncomputable section

namespace Cert.KernelIdeal.Own

open Idealize.ShloMosaic Idealize.ShloMosaic.TcCoe Idealize.ShloMosaic.ValueIdx Idealize.SL.Sem
open Idealize.ShloMosaic.Pipeline (Dat)
open Gen
open Cert.ReferenceIdeal.Own (atA)

variable (m : (ℓ : Loc nD τ sig) → Buf (Elt Ideal) ℓ) (ρ : Dev nD → PrngReg)

/-- The first result before its last two axes are exchanged. -/
def val2 (w : S3x2304x5120.Idx → BitVec 32) : S3x640x4x18432.Idx → BitVec 8 := fun y =>
  byteOf (y 2).val (nibF ((y 3).val % 8) (fun g => atA w (y 0).val ((y 3).val / 8) (8 * (y 1).val + g)))

/-- Every window's block index at every point. -/
theorem idx : ∀ t : Fin cfg0.N, win0_0.index t = ![t.val / 40, 0, t.val % 40] ∧ win0_1.index t = ![t.val / 40, 0, t.val % 40]
    ∧ win0_2.index t = ![t.val / 40, t.val % 40, 0, 0] ∧ win0_3.index t = ![t.val / 40, 0, t.val % 40] :=
  (by decide +kernel : ∀ t : Fin grid0.N, _)

/-- The words of the input block at a point, in the argument. -/
theorem atW_iblk (c : Dev nD) (t : Fin cfg0.N) (r l : ℕ) (hr : r < 2304) (hl : l < 128) :
    atW (iblk m c 0 t) r l = atA (m ((c : Thread nD τ).loc main_arg0)) (t.val / 40) r (128 * (t.val % 40) + l) := by
  have ht : t.val < 120 := lt_of_lt_of_eq t.isLt N_0
  unfold atW atA
  rw [dif_pos ⟨hr, hl⟩, dif_pos ⟨by omega, hr, by omega⟩]
  unfold iblk
  rw [View.read_apply]
  show m ((c : Thread nD τ).loc main_arg0) _ = m ((c : Thread nD τ).loc main_arg0) _
  congr 1
  funext a
  apply Fin.ext
  have e : ∀ a, (((cfg0.win 0).blk t).view.emb (ValueIdx.ix3 0 ⟨r, hr⟩ ⟨l, hl⟩) a : ℕ) = win0_0.index t a * S1x2304x128.size a + (ValueIdx.ix3 (0 : Fin 1) (⟨r, hr⟩ : Fin 2304) (⟨l, hl⟩ : Fin 128) a).val :=
    fun a => Pipeline.Window.rect_emb_val win0_0 _ _ a
  rw [e, (idx t).1]
  match a with
  | ⟨0, _⟩ => show t.val / 40 * 1 + 0 = t.val / 40; omega
  | ⟨1, _⟩ => show 0 * 2304 + r = r; omega
  | ⟨2, _⟩ => show t.val % 40 * 128 + l = 128 * (t.val % 40) + l; omega

/-- An element of the output block at a point, in the whole array. -/
theorem out2_at (c : Dev nD) (t : Fin cfg0.N) (y : S1x16x4x18432.Idx) (i : S3x640x4x18432.Idx) (e0 : (i 0).val = t.val / 40)
    (e1 : (i 1).val = 16 * (t.val % 40) + (y 1).val) (e2 : (i 2).val = (y 2).val) (e3 : (i 3).val = (y 3).val) :
    out2 m c t y = val2 (m ((c : Thread nD τ).loc main_arg0)) i := by
  have y1 : (y 1).val < 16 := (y 1).isLt
  have y3 : (y 3).val < 18432 := (y 3).isLt
  unfold out2 outW val2
  rw [e0, e1, e2, e3]
  congr 1
  refine nibF_congr _ fun g hg => ?_
  rw [atW_iblk m c t _ _ (by omega) (by omega)]
  congr 1
  omega

/-- Where an element of the output block at a point stands in the whole array. -/
theorem emb2 (t : Fin cfg0.N) (y : S1x16x4x18432.Idx) (a : Fin 4) :
    ((win0_2.blk t).view.emb y a : ℕ) = (![t.val / 40, t.val % 40, 0, 0] : Fin 4 → ℕ) a * S1x16x4x18432.size a + (y a).val := by
  rw [← (idx t).2.2.1]
  exact Pipeline.Window.rect_emb_val win0_2 _ _ a

/-- The first array at the end. -/
theorem final2 (c : Dev nD) : (dats m 0 c).arrAt 2 cfg0.N = val2 (m ((c : Thread nD τ).loc main_arg0)) := by
  refine (dats m 0 c).arrAt_eq_of_covers 2 _ (by decide +kernel) fun t hf y => ?_
  blk_simp
  rw [after0_2]
  have y0 : (y 0).val < 1 := (y 0).isLt
  refine out2_at m c t y _ ((emb2 t y 0).trans ?_) ((emb2 t y 1).trans ?_) ((emb2 t y 2).trans ?_) ((emb2 t y 3).trans ?_)
  · show t.val / 40 * 1 + (y 0).val = _; omega
  · show t.val % 40 * 16 + (y 1).val = _; omega
  · show 0 * 4 + (y 2).val = _; omega
  · show 0 * 18432 + (y 3).val = _; omega

/-- The second array at the end. -/
theorem final3 (c : Dev nD) : (dats m 0 c).arrAt 3 cfg0.N = m ((c : Thread nD τ).loc main_arg1) := by
  refine (dats m 0 c).arrAt_eq_of_covers 3 _ (by decide +kernel) fun t hf y => ?_
  blk_simp
  rw [after0_3]
  unfold out3 iblk
  rw [View.read_apply]
  show m ((c : Thread nD τ).loc main_arg1) _ = m ((c : Thread nD τ).loc main_arg1) _
  congr 1

/-- The first result: the first array with its last two axes exchanged. -/
theorem tail1 (c : Dev nD) : Pipeline.afterTail₀ cfgs (dats m) 0 (V0 m) [hostOps1] c main_v1
    = transpose S3x640x18432x4 [0, 1, 3, 2] (val2 (m ((c : Thread nD τ).loc main_arg0))) transposes_S3x640x4x18432_S3x640x18432x4_0_1_3_2 := by
  rw [← final2 m c]
  unfold Pipeline.afterTail₀
  show StableHlo.after hostOps1 _ _ = _
  unfold hostOps1
  after_results
  erw [Pipeline.withArrays_arr (cfgs 0).spec (by decide) c (V0 m c) (fun w => (dats m 0 c).arrAt w (cfgs 0).N) 2]

/-- The second result: the scales with their last two axes exchanged. -/
theorem tail2 (c : Dev nD) : Pipeline.afterTail₀ cfgs (dats m) 0 (V0 m) [hostOps1] c main_v2
    = transpose S3x5120x144 [0, 2, 1] (m ((c : Thread nD τ).loc main_arg1)) transposes_S3x144x5120_S3x5120x144_0_2_1 := by
  rw [← final3 m c]
  unfold Pipeline.afterTail₀
  show StableHlo.after hostOps1 _ _ = _
  unfold hostOps1
  after_results
  erw [Pipeline.withArrays_arr (cfgs 0).spec (by decide) c (V0 m c) (fun w => (dats m 0 c).arrAt w (cfgs 0).N) 3]

/-- The first result is what the reference computes. -/
theorem result1 (w : Cert.ReferenceIdeal.Own.Wds) (h) : transpose S3x640x18432x4 [0, 1, 3, 2] (val2 w) h = Cert.ReferenceIdeal.Own.refTerm w := by
  rw [Cert.ReferenceIdeal.Own.refTerm_eq]
  funext y
  exact transpose_apply [0, 1, 3, 2] (val2 w) h y (show S3x640x4x18432.Idx from ValueIdx.ix4 (y 0) (y 1) (y 3) (y 2)) (by intro a; fin_cases a <;> rfl)

end Cert.KernelIdeal.Own

end
-- ==== Proof.lean ====
/-
  The proof of `Cert.Claim`. The two frames of the kernel are its run (`Proof/OnBits/Run.lean` at the machine's floats,
  `Proof/Run.lean` at the ideal ones); the reference's frame is its run as a list of host operations; and the value claim joins
  the arrays that the kernel leaves (`Proof/Value.lean`) with what the reference computes (`Proof/RefVal.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.OnBits.Run
public import proofs.«01_k».proof.Proof.Value
public import Idealize.ShloMosaic.Lib.StableHlo.RunHlo
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's frame. -/
theorem frame_reference : Cert.quiescent_ReferenceIdeal := by
  intro m g _
  hlo_run
  · exact fun _ => ⟨trivial, trivial⟩
  · exact sem_eq_zero_of_no_sems (by decide) _

/-- The kernel's results are the reference's. -/
theorem algebraic : Cert.algebraic_KernelIdeal_ReferenceIdeal := by
  pair_intro
  · run_from Cert.KernelIdeal.Own.run_main m g
  · run_from Cert.ReferenceIdeal.Value.run m' g'
    · rw [Cert.KernelIdeal.Own.tail1]
      exact (Cert.KernelIdeal.Own.result1 _ _).symm
    · rw [Cert.KernelIdeal.Own.tail2]

theorem claim : Cert.Claim := ⟨Cert.Kernel.Gen.facts, Cert.KernelIdeal.Gen.facts, Cert.ReferenceIdeal.Gen.facts, fun m ρ _ => Cert.Kernel.Own.frame m ρ,
  fun m ρ _ => Cert.KernelIdeal.Own.frame m ρ, frame_reference, trivial, algebraic⟩

end Cert.Proof

end
